-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x4096 : Shape := ⟨2, ![8192, 4096]⟩
abbrev S8192x512 : Shape := ⟨2, ![8192, 512]⟩
abbrev S2x8192x256 : Shape := ⟨3, ![2, 8192, 256]⟩
abbrev S16x1024x256 : Shape := ⟨3, ![16, 1024, 256]⟩
abbrev S2 : Shape := ⟨1, ![2]⟩
abbrev S16 : Shape := ⟨1, ![16]⟩
abbrev S_ : Shape := ⟨0, ![]⟩
abbrev S1 : Shape := ⟨1, ![1]⟩
abbrev S1x8192x256 : Shape := ⟨3, ![1, 8192, 256]⟩
abbrev S8192x256 : Shape := ⟨2, ![8192, 256]⟩
abbrev S1024x256 : Shape := ⟨2, ![1024, 256]⟩
abbrev S1x1024x256 : Shape := ⟨3, ![1, 1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S1024x8192, .bf16⟩
  | .hbm, ⟨1, _⟩ => ⟨S8192x4096, .f32⟩
  | .hbm, ⟨2, _⟩ => ⟨S8192x512, .bf16⟩
  | .local _ .vmem, ⟨0, _⟩ => ⟨S1024x8192, .bf16⟩
  | .local _ .vmem, ⟨1, _⟩ => ⟨S8192x512, .bf16⟩
  | .local _ .vmem, ⟨2, _⟩ => ⟨S2x8192x256, .f32⟩
  | .local _ .vmem, ⟨3, _⟩ => ⟨S16x1024x256, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off1 (i : grid0.Coords) (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v49 : BitVec 32 := Scalar.addi v2 c1_i32_22
  let arg0 : BitVec 32 := BitVec.ofNat 32 (i 0).val
  let c2_i32_23 : BitVec 32 := 2#32
  let v50 : BitVec 32 := Scalar.divsi arg0 c2_i32_23
  let v51 : BitVec 32 := Scalar.addi v49 v50
  let c8_i32_24 : BitVec 32 := 8#32
  let v52 : BitVec 32 := Scalar.remsi v51 c8_i32_24
  let c512_i32_25 : BitVec 32 := 512#32
  let v53 : BitVec 32 := Scalar.muli v52 c512_i32_25
  let c2_i32_26 : BitVec 32 := 2#32
  let v54 : BitVec 32 := Scalar.remsi arg0 c2_i32_26
  let c256_i32_27 : BitVec 32 := 256#32
  let v55 : BitVec 32 := Scalar.muli v54 c256_i32_27
  let v56 : BitVec 32 := Scalar.addi v53 v55
  ![0, v56.toNat]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_33 : BitVec 32 := 0#32
  let v62 : BitVec 1 := Scalar.cmpi .ne v2 c0_i32_33
  let v63 : BitVec 32 := Scalar.extui v62
  let c0_i32_34 : BitVec 32 := 0#32
  let v64 : BitVec 1 := Scalar.cmpi .ne v63 c0_i32_34
  v64

def k0_dev1 : Nat :=
  let c0_i32_48 : BitVec 32 := 0#32
  let c0_i32_46 : BitVec 32 := 0#32
  let c1_i32_47 : BitVec 32 := 1#32
  let v86 : BitVec 32 := Scalar.muli c0_i32_46 c1_i32_47
  let v87 : BitVec 32 := Scalar.addi c0_i32_48 v86
  v87.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v65 : BitVec 1 := Scalar.cmpi .ne v2 c1_i32_35
  let v66 : BitVec 32 := Scalar.extui v65
  let c0_i32_36 : BitVec 32 := 0#32
  let v67 : BitVec 1 := Scalar.cmpi .ne v66 c0_i32_36
  v67

def k0_dev2 : Nat :=
  let c0_i32_48 : BitVec 32 := 0#32
  let c1_i32_46 : BitVec 32 := 1#32
  let c1_i32_47 : BitVec 32 := 1#32
  let v86 : BitVec 32 := Scalar.muli c1_i32_46 c1_i32_47
  let v87 : BitVec 32 := Scalar.addi c0_i32_48 v86
  v87.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v68 : BitVec 1 := Scalar.cmpi .ne v2 c2_i32_37
  let v69 : BitVec 32 := Scalar.extui v68
  let c0_i32_38 : BitVec 32 := 0#32
  let v70 : BitVec 1 := Scalar.cmpi .ne v69 c0_i32_38
  v70

def k0_dev3 : Nat :=
  let c0_i32_48 : BitVec 32 := 0#32
  let c2_i32_46 : BitVec 32 := 2#32
  let c1_i32_47 : BitVec 32 := 1#32
  let v86 : BitVec 32 := Scalar.muli c2_i32_46 c1_i32_47
  let v87 : BitVec 32 := Scalar.addi c0_i32_48 v86
  v87.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v71 : BitVec 1 := Scalar.cmpi .ne v2 c3_i32
  let v72 : BitVec 32 := Scalar.extui v71
  let c0_i32_39 : BitVec 32 := 0#32
  let v73 : BitVec 1 := Scalar.cmpi .ne v72 c0_i32_39
  v73

def k0_dev4 : Nat :=
  let c0_i32_48 : BitVec 32 := 0#32
  let c3_i32_46 : BitVec 32 := 3#32
  let c1_i32_47 : BitVec 32 := 1#32
  let v86 : BitVec 32 := Scalar.muli c3_i32_46 c1_i32_47
  let v87 : BitVec 32 := Scalar.addi c0_i32_48 v86
  v87.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v74 : BitVec 1 := Scalar.cmpi .ne v2 c4_i32
  let v75 : BitVec 32 := Scalar.extui v74
  let c0_i32_40 : BitVec 32 := 0#32
  let v76 : BitVec 1 := Scalar.cmpi .ne v75 c0_i32_40
  v76

def k0_dev5 : Nat :=
  let c0_i32_48 : BitVec 32 := 0#32
  let c4_i32_46 : BitVec 32 := 4#32
  let c1_i32_47 : BitVec 32 := 1#32
  let v86 : BitVec 32 := Scalar.muli c4_i32_46 c1_i32_47
  let v87 : BitVec 32 := Scalar.addi c0_i32_48 v86
  v87.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v77 : BitVec 1 := Scalar.cmpi .ne v2 c5_i32
  let v78 : BitVec 32 := Scalar.extui v77
  let c0_i32_41 : BitVec 32 := 0#32
  let v79 : BitVec 1 := Scalar.cmpi .ne v78 c0_i32_41
  v79

def k0_dev6 : Nat :=
  let c0_i32_48 : BitVec 32 := 0#32
  let c5_i32_46 : BitVec 32 := 5#32
  let c1_i32_47 : BitVec 32 := 1#32
  let v86 : BitVec 32 := Scalar.muli c5_i32_46 c1_i32_47
  let v87 : BitVec 32 := Scalar.addi c0_i32_48 v86
  v87.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v80 : BitVec 1 := Scalar.cmpi .ne v2 c6_i32
  let v81 : BitVec 32 := Scalar.extui v80
  let c0_i32_42 : BitVec 32 := 0#32
  let v82 : BitVec 1 := Scalar.cmpi .ne v81 c0_i32_42
  v82

def k0_dev7 : Nat :=
  let c0_i32_48 : BitVec 32 := 0#32
  let c6_i32_46 : BitVec 32 := 6#32
  let c1_i32_47 : BitVec 32 := 1#32
  let v86 : BitVec 32 := Scalar.muli c6_i32_46 c1_i32_47
  let v87 : BitVec 32 := Scalar.addi c0_i32_48 v86
  v87.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v83 : BitVec 1 := Scalar.cmpi .ne v2 c7_i32
  let v84 : BitVec 32 := Scalar.extui v83
  let c0_i32_43 : BitVec 32 := 0#32
  let v85 : BitVec 1 := Scalar.cmpi .ne v84 c0_i32_43
  v85

def k0_dev8 : Nat :=
  let c0_i32_48 : BitVec 32 := 0#32
  let c7_i32_46 : BitVec 32 := 7#32
  let c1_i32_47 : BitVec 32 := 1#32
  let v86 : BitVec 32 := Scalar.muli c7_i32_46 c1_i32_47
  let v87 : BitVec 32 := Scalar.addi c0_i32_48 v86
  v87.toNat
def k0_cond10 (i : grid0.Coords) : BitVec 1 :=
  let arg0 : BitVec 32 := BitVec.ofNat 32 (i 0).val
  let c15_i32 : BitVec 32 := 15#32
  let v8 : BitVec 1 := Scalar.cmpi .slt arg0 c15_i32
  let v9 : BitVec 32 := Scalar.extui v8
  let c0_i32_1 : BitVec 32 := 0#32
  let v10 : BitVec 1 := Scalar.cmpi .ne v9 c0_i32_1
  v10

def k0_off2 (i : grid0.Coords) : Fin 1 → Nat :=
  let c1_i32_23 : BitVec 32 := 1#32
  let arg0 : BitVec 32 := BitVec.ofNat 32 (i 0).val
  let c2_i32 : BitVec 32 := 2#32
  let v7 : BitVec 32 := Scalar.remsi arg0 c2_i32
  let v50 : BitVec 32 := Scalar.subi c1_i32_23 v7
  ![v50.toNat]
def k0_off3 (i : grid0.Coords) : Fin 3 → Nat :=
  let c1_i32_23 : BitVec 32 := 1#32
  let arg0 : BitVec 32 := BitVec.ofNat 32 (i 0).val
  let c2_i32 : BitVec 32 := 2#32
  let v7 : BitVec 32 := Scalar.remsi arg0 c2_i32
  let v50 : BitVec 32 := Scalar.subi c1_i32_23 v7
  let c0_i32_30 : BitVec 32 := 0#32
  let c0_i32_31 : BitVec 32 := 0#32
  ![v50.toNat, 0, 0]
def k0_off4 (i : grid0.Coords) (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v51 : BitVec 32 := Scalar.addi v2 c1_i32_24
  let arg0 : BitVec 32 := BitVec.ofNat 32 (i 0).val
  let c1_i32_22 : BitVec 32 := 1#32
  let v49 : BitVec 32 := Scalar.addi arg0 c1_i32_22
  let c2_i32_25 : BitVec 32 := 2#32
  let v52 : BitVec 32 := Scalar.divsi v49 c2_i32_25
  let v53 : BitVec 32 := Scalar.addi v51 v52
  let c8_i32_26 : BitVec 32 := 8#32
  let v54 : BitVec 32 := Scalar.remsi v53 c8_i32_26
  let c512_i32_27 : BitVec 32 := 512#32
  let v55 : BitVec 32 := Scalar.muli v54 c512_i32_27
  let c2_i32_28 : BitVec 32 := 2#32
  let v56 : BitVec 32 := Scalar.remsi v49 c2_i32_28
  let c256_i32_29 : BitVec 32 := 256#32
  let v57 : BitVec 32 := Scalar.muli v56 c256_i32_29
  let v58 : BitVec 32 := Scalar.addi v55 v57
  ![0, v58.toNat]
def k0_off5 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off6 (i : grid0.Coords) : Fin 3 → Nat :=
  let arg0 : BitVec 32 := BitVec.ofNat 32 (i 0).val
  let c2_i32 : BitVec 32 := 2#32
  let v7 : BitVec 32 := Scalar.remsi arg0 c2_i32
  let c0_i32_6 : BitVec 32 := 0#32
  let c0_i32_7 : BitVec 32 := 0#32
  ![v7.toNat, 0, 0]
def k0_off7 (i : grid0.Coords) (d0 : Dev nD) : Fin 2 → Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v11 : BitVec 32 := Scalar.addi v2 c1_i32_2
  let arg0 : BitVec 32 := BitVec.ofNat 32 (i 0).val
  let c2_i32_3 : BitVec 32 := 2#32
  let v12 : BitVec 32 := Scalar.divsi arg0 c2_i32_3
  let v13 : BitVec 32 := Scalar.addi v11 v12
  let c8_i32_4 : BitVec 32 := 8#32
  let v14 : BitVec 32 := Scalar.remsi v13 c8_i32_4
  let c512_i32 : BitVec 32 := 512#32
  let v15 : BitVec 32 := Scalar.muli v14 c512_i32
  let c2_i32_5 : BitVec 32 := 2#32
  let v16 : BitVec 32 := Scalar.remsi arg0 c2_i32_5
  let c256_i32 : BitVec 32 := 256#32
  let v17 : BitVec 32 := Scalar.muli v16 c256_i32
  let v18 : BitVec 32 := Scalar.addi v15 v17
  ![0, v18.toNat]
def k0_off8 (i : grid0.Coords) : Fin 3 → Nat :=
  let arg0 : BitVec 32 := BitVec.ofNat 32 (i 0).val
  let c2_i32 : BitVec 32 := 2#32
  let v7 : BitVec 32 := Scalar.remsi arg0 c2_i32
  let v26 : Index := Scalar.indexCast v7
  let c0_10 : Index := 0#32
  let c0_11 : Index := 0#32
  ![v26.toNat, 0, 0]
def k0_off9 (i : grid0.Coords) : Fin 3 → Nat :=
  let arg0 : BitVec 32 := BitVec.ofNat 32 (i 0).val
  let v34 : Index := Scalar.indexCast arg0
  let c0_13 : Index := 0#32
  let c0_14 : Index := 0#32
  ![v34.toNat, 0, 0]
def k0_cond11 (i : grid0.Coords) (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v38 : BitVec 32 := Scalar.addi v2 c1_i32_15
  let arg0 : BitVec 32 := BitVec.ofNat 32 (i 0).val
  let c2_i32_16 : BitVec 32 := 2#32
  let v39 : BitVec 32 := Scalar.divsi arg0 c2_i32_16
  let v40 : BitVec 32 := Scalar.addi v38 v39
  let c8_i32_17 : BitVec 32 := 8#32
  let v41 : BitVec 32 := Scalar.remsi v40 c8_i32_17
  let v43 : BitVec 1 := Scalar.cmpi .ne v41 v2
  let v44 : BitVec 32 := Scalar.extui v43
  let c0_i32_19 : BitVec 32 := 0#32
  let v45 : BitVec 1 := Scalar.cmpi .ne v44 c0_i32_19
  v45

def k0_off10 (i : grid0.Coords) : Fin 1 → Nat :=
  let arg0 : BitVec 32 := BitVec.ofNat 32 (i 0).val
  ![arg0.toNat]
def k0_off11 (i : grid0.Coords) (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_23 : BitVec 32 := 2#32
  let v51 : BitVec 32 := Scalar.muli v2 c2_i32_23
  let arg0 : BitVec 32 := BitVec.ofNat 32 (i 0).val
  let c2_i32_18 : BitVec 32 := 2#32
  let v42 : BitVec 32 := Scalar.remsi arg0 c2_i32_18
  let v52 : BitVec 32 := Scalar.addi v51 v42
  ![v52.toNat]
def k0_off12 (i : grid0.Coords) (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v49 : BitVec 32 := Scalar.muli v2 c1024_i32
  let arg0 : BitVec 32 := BitVec.ofNat 32 (i 0).val
  let c2_i32_18 : BitVec 32 := 2#32
  let v42 : BitVec 32 := Scalar.remsi arg0 c2_i32_18
  let c256_i32_22 : BitVec 32 := 256#32
  let v50 : BitVec 32 := Scalar.muli v42 c256_i32_22
  ![v49.toNat, v50.toNat]
def k0_off13 (i : grid0.Coords) : Fin 3 → Nat :=
  let arg0 : BitVec 32 := BitVec.ofNat 32 (i 0).val
  let c0_i32_26 : BitVec 32 := 0#32
  let c0_i32_27 : BitVec 32 := 0#32
  ![arg0.toNat, 0, 0]
def k0_dev9 (i : grid0.Coords) (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v38 : BitVec 32 := Scalar.addi v2 c1_i32_15
  let arg0 : BitVec 32 := BitVec.ofNat 32 (i 0).val
  let c2_i32_16 : BitVec 32 := 2#32
  let v39 : BitVec 32 := Scalar.divsi arg0 c2_i32_16
  let v40 : BitVec 32 := Scalar.addi v38 v39
  let c8_i32_17 : BitVec 32 := 8#32
  let v41 : BitVec 32 := Scalar.remsi v40 c8_i32_17
  let c1_i32_24 : BitVec 32 := 1#32
  let v53 : BitVec 32 := Scalar.muli v41 c1_i32_24
  let v54 : BitVec 32 := Scalar.addi c0_i32_25 v53
  v54.toNat
def k0_cond12 (i : grid0.Coords) : BitVec 1 :=
  let arg0 : BitVec 32 := BitVec.ofNat 32 (i 0).val
  let c15_i32_20 : BitVec 32 := 15#32
  let v46 : BitVec 1 := Scalar.cmpi .eq arg0 c15_i32_20
  let v47 : BitVec 32 := Scalar.extui v46
  let c0_i32_21 : BitVec 32 := 0#32
  let v48 : BitVec 1 := Scalar.cmpi .ne v47 c0_i32_21
  v48

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v49 : BitVec 32 := Scalar.muli v2 c1024_i32
  let c0_i32_23 : BitVec 32 := 0#32
  ![v49.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_26 : BitVec 32 := 1024#32
  let v55 : BitVec 32 := Scalar.muli v2 c1024_i32_26
  let c256_i32_29 : BitVec 32 := 256#32
  ![v55.toNat, 256]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_32 : BitVec 32 := 0#32
  let v61 : BitVec 1 := Scalar.cmpi .ne v2 c0_i32_32
  let v62 : BitVec 32 := Scalar.extui v61
  let c0_i32_36 : BitVec 32 := 0#32
  let v63 : BitVec 1 := Scalar.cmpi .ne v62 c0_i32_36
  v63

def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let v64 : BitVec 1 := Scalar.cmpi .ne v2 c0_i32_37
  let v65 : BitVec 32 := Scalar.extui v64
  let c0_i32_41 : BitVec 32 := 0#32
  let v66 : BitVec 1 := Scalar.cmpi .ne v65 c0_i32_41
  v66

def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_42 : BitVec 32 := 1#32
  let v67 : BitVec 1 := Scalar.cmpi .ne v2 c1_i32_42
  let v68 : BitVec 32 := Scalar.extui v67
  let c0_i32_46 : BitVec 32 := 0#32
  let v69 : BitVec 1 := Scalar.cmpi .ne v68 c0_i32_46
  v69

def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v70 : BitVec 1 := Scalar.cmpi .ne v2 c1_i32_47
  let v71 : BitVec 32 := Scalar.extui v70
  let c0_i32_50 : BitVec 32 := 0#32
  let v72 : BitVec 1 := Scalar.cmpi .ne v71 c0_i32_50
  v72

def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v73 : BitVec 1 := Scalar.cmpi .ne v2 c2_i32_51
  let v74 : BitVec 32 := Scalar.extui v73
  let c0_i32_54 : BitVec 32 := 0#32
  let v75 : BitVec 1 := Scalar.cmpi .ne v74 c0_i32_54
  v75

def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_55 : BitVec 32 := 2#32
  let v76 : BitVec 1 := Scalar.cmpi .ne v2 c2_i32_55
  let v77 : BitVec 32 := Scalar.extui v76
  let c0_i32_58 : BitVec 32 := 0#32
  let v78 : BitVec 1 := Scalar.cmpi .ne v77 c0_i32_58
  v78

def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v79 : BitVec 1 := Scalar.cmpi .ne v2 c3_i32_59
  let v80 : BitVec 32 := Scalar.extui v79
  let c0_i32_62 : BitVec 32 := 0#32
  let v81 : BitVec 1 := Scalar.cmpi .ne v80 c0_i32_62
  v81

def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v82 : BitVec 1 := Scalar.cmpi .ne v2 c3_i32_63
  let v83 : BitVec 32 := Scalar.extui v82
  let c0_i32_66 : BitVec 32 := 0#32
  let v84 : BitVec 1 := Scalar.cmpi .ne v83 c0_i32_66
  v84

def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v85 : BitVec 1 := Scalar.cmpi .ne v2 c4_i32_67
  let v86 : BitVec 32 := Scalar.extui v85
  let c0_i32_71 : BitVec 32 := 0#32
  let v87 : BitVec 1 := Scalar.cmpi .ne v86 c0_i32_71
  v87

def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v88 : BitVec 1 := Scalar.cmpi .ne v2 c4_i32_72
  let v89 : BitVec 32 := Scalar.extui v88
  let c0_i32_75 : BitVec 32 := 0#32
  let v90 : BitVec 1 := Scalar.cmpi .ne v89 c0_i32_75
  v90

def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v91 : BitVec 1 := Scalar.cmpi .ne v2 c5_i32_76
  let v92 : BitVec 32 := Scalar.extui v91
  let c0_i32_79 : BitVec 32 := 0#32
  let v93 : BitVec 1 := Scalar.cmpi .ne v92 c0_i32_79
  v93

def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_80 : BitVec 32 := 5#32
  let v94 : BitVec 1 := Scalar.cmpi .ne v2 c5_i32_80
  let v95 : BitVec 32 := Scalar.extui v94
  let c0_i32_83 : BitVec 32 := 0#32
  let v96 : BitVec 1 := Scalar.cmpi .ne v95 c0_i32_83
  v96

def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v97 : BitVec 1 := Scalar.cmpi .ne v2 c6_i32_84
  let v98 : BitVec 32 := Scalar.extui v97
  let c0_i32_87 : BitVec 32 := 0#32
  let v99 : BitVec 1 := Scalar.cmpi .ne v98 c0_i32_87
  v99

def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_88 : BitVec 32 := 6#32
  let v100 : BitVec 1 := Scalar.cmpi .ne v2 c6_i32_88
  let v101 : BitVec 32 := Scalar.extui v100
  let c0_i32_91 : BitVec 32 := 0#32
  let v102 : BitVec 1 := Scalar.cmpi .ne v101 c0_i32_91
  v102

def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v103 : BitVec 1 := Scalar.cmpi .ne v2 c7_i32_92
  let v104 : BitVec 32 := Scalar.extui v103
  let c0_i32_96 : BitVec 32 := 0#32
  let v105 : BitVec 1 := Scalar.cmpi .ne v104 c0_i32_96
  v105

def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v106 : BitVec 1 := Scalar.cmpi .ne v2 c7_i32_97
  let v107 : BitVec 32 := Scalar.extui v106
  let c0_i32_101 : BitVec 32 := 0#32
  let v108 : BitVec 1 := Scalar.cmpi .ne v107 c0_i32_101
  v108

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x8192, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelCommon.lean ====
/-
  The kernel's protocol over the eight devices: its cells, the contents every buffer holds, the duties each cell's
  units stand for, what each device owes at launch, and the levels of the cells.

  Device `c` multiplies its rows of `x` by sixteen column blocks of the weights, one per grid point. Point `i` makes
  the block that device `dest c i` needs (columns `256 * (i % 2)` of its 512) and, for `i < 14`, copies it into rows
  `1024 * c` of that device's result buffer. The last two points make the device's own two blocks.

  Cells of device `c`:
  * its barrier cell: seven duties of one unit, one per other device `d`; `d`'s unit hands `c` the two blocks of `d`'s
    result buffer that `c` fills, and that `d` has opened the two receive cells `c` pays;
  * send cell `j` (`j < 14`): one duty, paid by the read-out of copy `j`, handing slot `j` of the send buffer back;
  * receive cell `k` (`k / 2 ≠ c`): one duty, paid by the landing of device `k / 2`'s block `k % 2`.
-/
module

public import proofs.«01_k».proof.Defs
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.ViewIndex
public import Idealize.ShloMosaic.Lib.Tactic
public import proofs.«01_k».proof.Proof.Gen.Kernel
public import proofs.«01_k».proof.Proof.Gen.Kernel.Skeleton
public import proofs.«01_k».proof.Proof.Gen.Kernel.Launch

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's rounds, the exchange's rounds, the local copies' counters -/

abbrev UX : Type := URounds (GSem nD τ sig) (Dev nD)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's copy of the rounds algebra. -/
def ER : Emb UX (MT nD τ sig Unit (Elt F) ℕ UU ℕ) :=
  ((Emb.inl : Emb UX (UX × Counters)).trans (Emb.inr : Emb (UX × Counters) UU)).trans uEmb.toEmb
instance ER_landsIn : (ER : Emb UX (MT nD τ sig Unit (Elt F) ℕ UU ℕ)).LandsIn (upEmb : UEmb _ (MT nD τ sig Unit (Elt F) ℕ UU ℕ)) :=
  by unfold ER; infer_instance

/-! ## Semaphores and cells -/

abbrev barS : Sem sig := (SemArray.scalar (sig.barrier 0 rfl) : Sems sig S_).sem
def wS (s : Fin 2) : DmaSem sig := ⟨2 + s.val, by have := s.isLt; show _ < 38; omega⟩
def locS (s : Fin 2) : DmaSem sig := ⟨4 + s.val, by have := s.isLt; show _ < 38; omega⟩
def sendS (j : Fin 16) : DmaSem sig := ⟨6 + j.val, by have := j.isLt; show _ < 38; omega⟩
def recvS (k : Fin 16) : DmaSem sig := ⟨22 + k.val, by have := k.isLt; show _ < 38; omega⟩

abbrev barCell (c : Dev nD) : GSem nD τ sig := ((c : Thread nD τ), .reg barS)
abbrev sendCell (c : Dev nD) (j : Fin 16) : GSem nD τ sig := ((c : Thread nD τ), .dma (sendS j))
abbrev recvCell (c : Dev nD) (k : Fin 16) : GSem nD τ sig := ((c : Thread nD τ), .dma (recvS k))

/-- One semaphore of an array laid on the pool from `base`: slot `j` is the pool's number `base + j`. -/
theorem pool_sem {n base k : ℕ} (h : base + (⟨1, ![k]⟩ : Shape).numel ≤ n) (off : Fin 1 → ℕ) (inb) (j : ℕ) (hj : off = ![j]) :
    (((SemArray.consecutive (n := n) base ⟨1, ![k]⟩ h).slice (Rect.unit (s := ⟨1, ![k]⟩) off S1.size inb)).squeeze S_ squeezes_S1_S_).sem.val
      = base + j := by
  subst hj
  show base + ((⟨1, ![k]⟩ : Shape).rowMajor _).val = base + j
  rw [Shape.rowMajor_val_one]
  rw [Rect.emb_apply]
  have h0 : ∀ y : S1.Idx, (y 0).val = 0 := fun y => Nat.lt_one_iff.mp (y 0).isLt
  show base + (j + 1 * (_ : ℕ)) = base + j
  rw [h0, Nat.mul_zero, Nat.add_zero]

theorem w_sem (off : Fin 1 → ℕ) (inb) (s : Fin 2) (h : off = ![s.val]) :
    ((cc0_scratch2.slice (Rect.unit (s := S2) off S1.size inb)).squeeze S_ squeezes_S1_S_).sem = wS s :=
  Fin.ext (pool_sem (k := 2) _ off inb s.val h)
theorem loc_sem (off : Fin 1 → ℕ) (inb) (s : Fin 2) (h : off = ![s.val]) :
    ((cc0_scratch3.slice (Rect.unit (s := S2) off S1.size inb)).squeeze S_ squeezes_S1_S_).sem = locS s :=
  Fin.ext (pool_sem (k := 2) _ off inb s.val h)
theorem send_sem (off : Fin 1 → ℕ) (inb) (j : Fin 16) (h : off = ![j.val]) :
    ((cc0_scratch4.slice (Rect.unit (s := S16) off S1.size inb)).squeeze S_ squeezes_S1_S_).sem = sendS j :=
  Fin.ext (pool_sem (k := 16) _ off inb j.val h)
theorem recv_sem (off : Fin 1 → ℕ) (inb) (k : Fin 16) (h : off = ![k.val]) :
    ((cc0_scratch5.slice (Rect.unit (s := S16) off S1.size inb)).squeeze S_ squeezes_S1_S_).sem = recvS k :=
  Fin.ext (pool_sem (k := 16) _ off inb k.val h)

/-! ## The exchange's arithmetic -/

/-- The device that needs the block made at point `i` of device `c`. -/
def dest (c : Dev nD) (i : ℕ) : Dev nD := ⟨(c.val + i / 2 + 1) % 8, Nat.mod_lt _ (by decide)⟩
/-- The receive cell of that device which the copy of point `i` pays. -/
def rix (c : Dev nD) (i : ℕ) : Fin 16 := ⟨2 * c.val + i % 2, by have : c.val < 8 := c.isLt; omega⟩
/-- The device named by a number. -/
def dv (n : ℕ) : Dev nD := ⟨n % 8, Nat.mod_lt _ (by decide)⟩

theorem dest_ne (c : Dev nD) (i : ℕ) (h : i < 14) : dest c i ≠ c := fun e => by
  have h1 : (c.val + i / 2 + 1) % 8 = c.val := congrArg Fin.val e
  have : c.val < 8 := c.isLt
  omega

/-! ## Blocks and slots -/

abbrev xM : Memref sig .tc .vmem S1024x8192 .bf16 := Memref.whole cc0_stg0_0
abbrev wM : Memref sig .tc .hbm S8192x4096 .f32 := Memref.whole main_arg1
abbrev oM : Memref sig .tc .vmem S8192x512 .bf16 := Memref.whole cc0_stg1_0
abbrev stM : Memref sig .tc .vmem S2x8192x256 .f32 := Memref.whole cc0_scratch0
abbrev sbM : Memref sig .tc .vmem S16x1024x256 .bf16 := Memref.whole cc0_scratch1

def wOff (c : Dev nD) (i : ℕ) : Fin 2 → ℕ := ![0, 512 * ((c.val + i / 2 + 1) % 8) + 256 * (i % 2)]
theorem wOff_inb (c : Dev nD) (i : ℕ) : ∀ a, wOff c i a + S8192x256.size a ≤ S8192x4096.size a :=
  Rect.inb₂ (by show 0 + 8192 ≤ 8192; omega)
    (by show 512 * ((c.val + i / 2 + 1) % 8) + 256 * (i % 2) + 256 ≤ 4096; omega)
def stOff (s : Fin 2) : Fin 3 → ℕ := ![s.val, 0, 0]
theorem stOff_inb (s : Fin 2) : ∀ a, stOff s a + S1x8192x256.size a ≤ S2x8192x256.size a :=
  by
  intro a; fin_cases a
  · show s.val + 1 ≤ 2; omega
  · show 0 + 8192 ≤ 8192; omega
  · show 0 + 256 ≤ 256; omega
def sbOff (j : Fin 16) : Fin 3 → ℕ := ![j.val, 0, 0]
theorem sbOff_inb (j : Fin 16) : ∀ a, sbOff j a + S1x1024x256.size a ≤ S16x1024x256.size a :=
  by
  intro a; fin_cases a
  · show j.val + 1 ≤ 16; omega
  · show 0 + 1024 ≤ 1024; omega
  · show 0 + 256 ≤ 256; omega
def oOff (d : Dev nD) (cc : Fin 2) : Fin 2 → ℕ := ![1024 * d.val, 256 * cc.val]
theorem oOff_inb (d : Dev nD) (cc : Fin 2) : ∀ a, oOff d cc a + S1024x256.size a ≤ S8192x512.size a :=
  Rect.inb₂ (by have : d.val < 8 := d.isLt; show 1024 * d.val + 1024 ≤ 8192; omega) (by show 256 * cc.val + 256 ≤ 512; omega)

/-- The weights' columns of point `i`, the staging slot `s`, the send slot `j`, the result block of device `d`. -/
abbrev wR (c : Dev nD) (i : ℕ) : Rect S8192x4096 := Rect.unit (s := S8192x4096) (wOff c i) S8192x256.size (wOff_inb c i)
abbrev stR (s : Fin 2) : Rect S2x8192x256 := Rect.unit (s := S2x8192x256) (stOff s) S1x8192x256.size (stOff_inb s)
abbrev sbR (j : Fin 16) : Rect S16x1024x256 := Rect.unit (s := S16x1024x256) (sbOff j) S1x1024x256.size (sbOff_inb j)
abbrev oR (d : Dev nD) (cc : Fin 2) : Rect S8192x512 := Rect.unit (s := S8192x512) (oOff d cc) S1024x256.size (oOff_inb d cc)

abbrev wV (c : Dev nD) (i : ℕ) : Memref sig .tc .hbm S8192x256 .f32 := wM.slice (wR c i) (fun _ => rfl)
abbrev stV (s : Fin 2) : Memref sig .tc .vmem S8192x256 .f32 :=
  (stM.slice (stR s) (fun _ => rfl)).squeeze S8192x256 squeezes_S1x8192x256_S8192x256
abbrev sbV (j : Fin 16) : Memref sig .tc .vmem S1024x256 .bf16 :=
  (sbM.slice (sbR j) (fun _ => rfl)).squeeze S1024x256 squeezes_S1x1024x256_S1024x256
abbrev oV (d : Dev nD) (cc : Fin 2) : Memref sig .tc .vmem S1024x256 .bf16 := oM.slice (oR d cc) (fun _ => rfl)

theorem wV_set (c : Dev nD) (i : ℕ) : (wV c i).view.set = (wR c i).set := View.set_slice_whole _ _
theorem stV_set (s : Fin 2) : (stV s).view.set = (stR s).set :=
  (View.set_reshape _ _).trans (View.set_slice_whole _ _)
theorem sbV_set (j : Fin 16) : (sbV j).view.set = (sbR j).set :=
  (View.set_reshape _ _).trans (View.set_slice_whole _ _)
theorem oV_set (d : Dev nD) (cc : Fin 2) : (oV d cc).view.set = (oR d cc).set := View.set_slice_whole _ _

/-- A block's credit. -/
abbrev N : ℕ := (oV 0 0).view.dmaCredit
theorem N_pos : 0 < N := View.dmaCredit_pos _ (by decide)
/-- A staging slot's credit. -/
abbrev NW : ℕ := (stV 0).view.dmaCredit
theorem NW_pos : 0 < NW := View.dmaCredit_pos _ (by decide)

/-! ## Contents -/

variable (m : (ℓ : Loc nD τ sig) → Buf (Elt F) ℓ) (ρ : Dev nD → PrngReg)

/-- The memory at launch. -/
def s₀ : MemSt nD τ sig (Elt F) := ⟨m, fun _ => 0, ρ⟩

abbrev xLoc (c : Dev nD) : Loc nD τ sig := (c : Thread nD τ).loc cc0_stg0_0
abbrev wLoc (c : Dev nD) : Loc nD τ sig := (c : Thread nD τ).loc main_arg1
abbrev oLoc (c : Dev nD) : Loc nD τ sig := (c : Thread nD τ).loc cc0_stg1_0
abbrev stLoc (c : Dev nD) : Loc nD τ sig := (c : Thread nD τ).loc cc0_scratch0
abbrev sbLoc (c : Dev nD) : Loc nD τ sig := (c : Thread nD τ).loc cc0_scratch1

/-- Device `c`'s rows of `x` and its weights. -/
def X (c : Dev nD) : S1024x8192.Idx → Elt F .bf16 := m ((c : Thread nD τ).loc main_arg0)
def W (c : Dev nD) : S8192x4096.Idx → Elt F .f32 := m ((c : Thread nD τ).loc main_arg1)

theorem wcol_lt (c : Dev nD) (i b : ℕ) (h : b < 256) : 512 * ((c.val + i / 2 + 1) % 8) + 256 * (i % 2) + b < 4096 := by omega

/-- The weights' columns of point `i`, at row `a` and column `b` of the block. -/
def wAt (c : Dev nD) (i : ℕ) (a : Fin 8192) (b : Fin 256) : Elt F .f32 :=
  W m c (ix2 a (⟨512 * ((c.val + i / 2 + 1) % 8) + 256 * (i % 2) + b.val, wcol_lt c i b.val b.isLt⟩ : Fin 4096))
/-- A staging buffer whose slots hold the columns of point `i`. -/
def WS (c : Dev nD) (i : ℕ) : S2x8192x256.Idx → Elt F .f32 := fun j => wAt m c i (j 1) (j 2)
/-- The columns of point `i` as the slot's load reads them. -/
def wv (c : Dev nD) (i : ℕ) : S1x8192x256.Idx → Elt F .f32 := fun j => wAt m c i (j 1) (j 2)
/-- The block made at point `i`. -/
def blk (c : Dev nD) (i : ℕ) : S1x1024x256.Idx → Elt F .bf16 := k0_pay1 (k0_pay2 (X m c) (wv m c i))
/-- The send buffer with every block made. -/
def SB (c : Dev nD) : S16x1024x256.Idx → Elt F .bf16 :=
  fun j => blk m c (j 0).val (ix3 (0 : Fin 1) (j 1) (j 2))
/-- The result buffer of device `s` with every block landed. -/
def OUT (s : Dev nD) : S8192x512.Idx → Elt F .bf16 := fun j =>
  blk m (dv ((j 0).val / 1024)) (2 * ((s.val + 15 - (j 0).val / 1024) % 8) + (j 1).val / 256)
    (ix3 (0 : Fin 1) (⟨(j 0).val % 1024, Nat.mod_lt _ (by decide)⟩ : Fin 1024) (⟨(j 1).val % 256, Nat.mod_lt _ (by decide)⟩ : Fin 256))

/-! ## The schedule -/

/-- The two blocks of `d`'s result buffer that `c` fills. -/
def lend (c d : Dev nD) : sProp 𝕄 :=
  iprop((∃ f : Buf (Elt F) (oLoc d), oLoc d ↦[(oR c 0).set]{fullShare} f) ∗ (∃ f : Buf (Elt F) (oLoc d), oLoc d ↦[(oR c 1).set]{fullShare} f))
/-- What `d`'s signal hands `c`. -/
def barPay (c d : Dev nD) : sProp 𝕄 :=
  iprop(lend c d ∗ reached ER (recvCell d (rix c 0)) 0 ∗ reached ER (recvCell d (rix c 1)) 0)
def sendPay (c : Dev nD) (j : Fin 16) : sProp 𝕄 := sbLoc c ↦[(sbR j).set]{fullShare} SB m c
def recvPay (c : Dev nD) (k : Fin 16) : sProp 𝕄 :=
  oLoc c ↦[(oR (dv (k.val / 2)) ⟨k.val % 2, Nat.mod_lt _ (by decide)⟩).set]{fullShare} OUT m c

instance lend_storable (c d : Dev nD) : BI.Storable (upEmb : UEmb _ 𝕄) (lend (F := F) c d) := by unfold lend; infer_instance
instance barPay_storable (c d : Dev nD) : BI.Storable (upEmb : UEmb _ 𝕄) (barPay (F := F) c d) := by unfold barPay; infer_instance
instance sendPay_storable (c : Dev nD) (j) : BI.Storable (upEmb : UEmb _ 𝕄) (sendPay (F := F) m c j) := by unfold sendPay; infer_instance
instance recvPay_storable (c : Dev nD) (k) : BI.Storable (upEmb : UEmb _ 𝕄) (recvPay (F := F) m c k) := by unfold recvPay; infer_instance

/-- Round 0's duties of device `c`'s semaphores, its amounts and its payloads. -/
def semDuties (c : Dev nD) : SemLoc sig → Finset (Dev nD)
  | .reg _ => Finset.univ.erase c
  | .dma s => if 6 ≤ s.val ∧ s.val < 20 ∨ 22 ≤ s.val ∧ (s.val - 22) / 2 ≠ c.val then {c} else ∅
def semAmount : SemLoc sig → ℕ
  | .reg _ => 1
  | .dma _ => N
def semPay (c : Dev nD) (d : Dev nD) : SemLoc sig → sProp 𝕄
  | .reg _ => barPay c d
  | .dma s => if s.val < 22 then sendPay m c ⟨(s.val - 6) % 16, Nat.mod_lt _ (by decide)⟩
    else recvPay m c ⟨(s.val - 22) % 16, Nat.mod_lt _ (by decide)⟩

instance semPay_storable (c d : Dev nD) (s : SemLoc sig) : BI.Storable (upEmb : UEmb _ 𝕄) (semPay (F := F) m c d s) := by
  unfold semPay; split
  · infer_instance
  · split <;> infer_instance

def Rd : Rounds.Schedule (GSem nD τ sig) (Dev nD) 𝕄 where
  duties g r := if r = 0 ∧ g.1.2 = .tc then semDuties g.1.1 g.2 else ∅
  unitless _ := False
  amount g _ _ := semAmount g.2
  payload g _ d := semPay m g.1.1 d g.2
  amount_pos g _ _ _ := by
    show 0 < semAmount g.2
    unfold semAmount; split
    · exact Nat.one_pos
    · exact N_pos

instance Rd_payload_storable (g : GSem nD τ sig) (r : ℕ) (d : Dev nD) :
    BI.Storable (upEmb : UEmb _ 𝕄) ((Rd (F := F) m).payload g r d) := semPay_storable m g.1.1 d g.2

section Sched
variable (c : Dev nD)

theorem duties_eq (sm : SemLoc sig) : (Rd (F := F) m).duties ((c : Thread nD τ), sm) 0 = semDuties c sm := by
  dsimp only [Rd]; exact if_pos ⟨rfl, rfl⟩
theorem duties_bar : (Rd (F := F) m).duties (barCell c) 0 = Finset.univ.erase c := duties_eq m c _
theorem duties_send (j : Fin 16) (h : j.val < 14) : (Rd (F := F) m).duties (sendCell c j) 0 = {c} :=
  (duties_eq m c _).trans (if_pos (Or.inl ⟨by show 6 ≤ 6 + j.val; omega, by show 6 + j.val < 20; omega⟩))
theorem duties_send_none (j : Fin 16) (h : 14 ≤ j.val) (r : ℕ) : (Rd (F := F) m).duties (sendCell c j) r = ∅ := by
  by_cases hr : r = 0
  · subst hr
    refine (duties_eq m c _).trans (if_neg ?_)
    show ¬(6 ≤ 6 + j.val ∧ 6 + j.val < 20 ∨ 22 ≤ 6 + j.val ∧ _)
    omega
  · dsimp only [Rd]; exact if_neg fun h => hr h.1
theorem duties_recv (k : Fin 16) (h : k.val / 2 ≠ c.val) : (Rd (F := F) m).duties (recvCell c k) 0 = {c} :=
  (duties_eq m c _).trans (if_pos (Or.inr ⟨by show 22 ≤ 22 + k.val; omega, by show (22 + k.val - 22) / 2 ≠ c.val; omega⟩))
theorem duties_recv_none (k : Fin 16) (h : k.val / 2 = c.val) (r : ℕ) : (Rd (F := F) m).duties (recvCell c k) r = ∅ := by
  by_cases hr : r = 0
  · subst hr
    refine (duties_eq m c _).trans (if_neg ?_)
    show ¬(6 ≤ 22 + k.val ∧ 22 + k.val < 20 ∨ 22 ≤ 22 + k.val ∧ (22 + k.val - 22) / 2 ≠ c.val)
    omega
  · dsimp only [Rd]; exact if_neg fun h => hr h.1
theorem duties_later (g : GSem nD τ sig) : ∀ r, 1 ≤ r → (Rd (F := F) m).duties g r = ∅ :=
  fun r hr => by dsimp only [Rd]; exact if_neg fun h => by omega

theorem payload_send (j : Fin 16) (d : Dev nD) : (Rd (F := F) m).payload (sendCell c j) 0 d = sendPay m c j := by
  show (if 6 + j.val < 22 then sendPay m c ⟨(6 + j.val - 6) % 16, _⟩ else _) = _
  rw [if_pos (by omega)]
  congr 1; exact Fin.ext (by show (6 + j.val - 6) % 16 = j.val; omega)
theorem payload_recv (k : Fin 16) (d : Dev nD) : (Rd (F := F) m).payload (recvCell c k) 0 d = recvPay m c k := by
  show (if 22 + k.val < 22 then _ else recvPay m c ⟨(22 + k.val - 22) % 16, _⟩) = _
  rw [if_neg (by omega)]
  congr 1; exact Fin.ext (by show (22 + k.val - 22) % 16 = k.val; omega)

theorem expect_bar : (Rd (F := F) m).expect (barCell c) 0 = 7 := by
  unfold Schedule.expect Schedule.amountOf
  rw [duties_bar]
  show (∑ _d ∈ Finset.univ.erase c, 1) = 7
  rw [Finset.sum_const, Finset.card_erase_of_mem (Finset.mem_univ c), Finset.card_univ]
  rfl
theorem expect_send (j : Fin 16) (h : j.val < 14) : (Rd (F := F) m).expect (sendCell c j) 0 = N := by
  unfold Schedule.expect Schedule.amountOf; rw [duties_send m c j h, Finset.sum_singleton]; rfl
theorem expect_recv (k : Fin 16) (h : k.val / 2 ≠ c.val) : (Rd (F := F) m).expect (recvCell c k) 0 = N := by
  unfold Schedule.expect Schedule.amountOf; rw [duties_recv m c k h, Finset.sum_singleton]; rfl
theorem rest_bar : bigSep ((Rd (F := F) m).duties (barCell c) 0 \ ∅) (fun d => (Rd (F := F) m).payload (barCell c) 0 d)
    = bigSep (Finset.univ.erase c) fun d => barPay (F := F) c d := by
  rw [Finset.sdiff_empty, duties_bar]; rfl
theorem rest_send (j : Fin 16) (h : j.val < 14) :
    bigSep ((Rd (F := F) m).duties (sendCell c j) 0 \ ∅) (fun d => (Rd (F := F) m).payload (sendCell c j) 0 d) = sendPay m c j := by
  rw [Finset.sdiff_empty, duties_send m c j h, bigSep_singleton, payload_send]
theorem rest_recv (k : Fin 16) (h : k.val / 2 ≠ c.val) :
    bigSep ((Rd (F := F) m).duties (recvCell c k) 0 \ ∅) (fun d => (Rd (F := F) m).payload (recvCell c k) 0 d) = recvPay m c k := by
  rw [Finset.sdiff_empty, duties_recv m c k h, bigSep_singleton, payload_recv]

end Sched

/-! ## What each device owes; the levels -/

/-- The receive credits device `c` still owes before point `i`. -/
def Orem (c : Dev nD) (i : ℕ) : CellTallies nD τ sig Unit :=
  ∑ j ∈ Finset.Ico i 14, tallyAt (recvCell (dest c j) (rix c j)) () N
/-- The barrier unit device `c` owes device number `n`. -/
def obar (c : Dev nD) (n : ℕ) : CellTallies nD τ sig Unit := if dv n = c then 0 else tallyAt (barCell (dv n)) () 1
/-- What it owes before its signal to device number `n`; at launch, before the first. -/
def Osig (c : Dev nD) (n : ℕ) : CellTallies nD τ sig Unit := Orem c 0 + ∑ d ∈ Finset.Ico n 8, obar c d
def O₀ (c : Dev nD) : CellTallies nD τ sig Unit := Osig c 0

theorem Orem_succ (c : Dev nD) (i : ℕ) (h : i < 14) :
    Orem c i = Orem c (i + 1) + tallyAt (recvCell (dest c i) (rix c i)) () N := by
  unfold Orem; rw [Finset.sum_eq_sum_Ico_succ_bot h, add_comm]
theorem Orem_done (c : Dev nD) (i : ℕ) (h : 14 ≤ i) : Orem c i = 0 := by
  unfold Orem; rw [Finset.Ico_eq_empty (by omega), Finset.sum_empty]
theorem Osig_succ (c : Dev nD) (n : ℕ) (h : n < 8) : Osig c n = Osig c (n + 1) + obar c n := by
  unfold Osig; rw [Finset.sum_eq_sum_Ico_succ_bot h, add_comm (obar c n), add_assoc]
theorem Osig_done (c : Dev nD) : Osig c 8 = Orem c 0 := by
  unfold Osig; rw [Finset.Ico_self, Finset.sum_empty, add_zero]

def L (g : GSem nD τ sig) : Finset Unit := if g.1.2 = .tc then {()} else ∅
/-- Barrier cells at 1, receive cells at 2, every other cell at 0. -/
def semLv : SemLoc sig → ℕ
  | .reg _ => 1
  | .dma s => if 22 ≤ s.val then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem sum_pos_mem {ι : Type} (s : Finset ι) (f : ι → CellTallies nD τ sig Unit) {g : GSem nD τ sig} {u : Unit}
    (h : 0 < (∑ j ∈ s, f j) g u) : ∃ j ∈ s, 0 < f j g u := by
  classical
  induction s using Finset.induction_on with
  | empty => rw [Finset.sum_empty] at h; exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨j, hj, h⟩ := ih h; exact ⟨j, Finset.mem_insert_of_mem hj, h⟩

theorem tally_pos {g' g : GSem nD τ sig} {n : ℕ} {u : Unit} (h : 0 < tallyAt g' () n g u) : g = g' := by
  rw [tallyAt_apply] at h
  by_contra hn
  rw [if_neg (fun h' => hn h'.1)] at h
  exact Nat.lt_irrefl 0 h

theorem Orem_pos {c : Dev nD} {i : ℕ} {g : GSem nD τ sig} {u : Unit} (h : 0 < Orem c i g u) :
    ∃ j, g = recvCell (dest c j) (rix c j) := by
  obtain ⟨j, _, h⟩ := sum_pos_mem _ _ h
  exact ⟨j, tally_pos h⟩
theorem Osig_pos {c : Dev nD} {n : ℕ} {g : GSem nD τ sig} {u : Unit} (h : 0 < Osig c n g u) :
    (∃ j, g = recvCell (dest c j) (rix c j)) ∨ ∃ d, g = barCell d := by
  unfold Osig at h
  rw [Pi.add_apply, Finsupp.add_apply] at h
  rcases Nat.add_pos_iff_pos_or_pos.mp h with h | h
  · exact .inl (Orem_pos h)
  · obtain ⟨j, _, h⟩ := sum_pos_mem _ _ h
    unfold obar at h
    split at h
    · exact absurd h (Nat.lt_irrefl 0)
    · exact .inr ⟨_, tally_pos h⟩

/-- A wait on a cell of level 0 is allowed while signals or copies are owed; -/
theorem mayWait_sig (c : Dev nD) (q : DmaSem sig) (hq : q.val < 22) (n : ℕ) :
    (levAts L lv : sProp 𝕄) ⊢ MayWait (c : Thread nD τ) (.dma q) () (Osig c n) := by
  refine MayOwe.of_cut (L := L) (lev := lv) 0 (fun p hp => by rw [Finset.mem_singleton.mp hp, L_tc]; exact Finset.mem_singleton_self _)
      (fun g u hg => by rcases Osig_pos hg with ⟨j, rfl⟩ | ⟨d, rfl⟩ <;> exact Finset.mem_singleton_self _)
      (fun p hp => by
        rw [Finset.mem_singleton.mp hp]
        show (if 22 ≤ q.val then 2 else 0) ≤ 0
        rw [if_neg (by omega)])
      (fun g u hg => by
        rcases Osig_pos hg with ⟨j, rfl⟩ | ⟨d, rfl⟩
        · show 0 < (if 22 ≤ 22 + (rix c j).val then 2 else 0)
          rw [if_pos (by omega)]; decide
        · exact Nat.one_pos)
theorem mayWait_rem (c : Dev nD) (q : DmaSem sig) (hq : q.val < 22) (i : ℕ) :
    (levAts L lv : sProp 𝕄) ⊢ MayWait (c : Thread nD τ) (.dma q) () (Orem c i) := by
  refine MayOwe.of_cut (L := L) (lev := lv) 0 (fun p hp => by rw [Finset.mem_singleton.mp hp, L_tc]; exact Finset.mem_singleton_self _)
      (fun g u hg => by obtain ⟨j, rfl⟩ := Orem_pos hg; exact Finset.mem_singleton_self _)
      (fun p hp => by
        rw [Finset.mem_singleton.mp hp]
        show (if 22 ≤ q.val then 2 else 0) ≤ 0
        rw [if_neg (by omega)])
      (fun g u hg => by
        obtain ⟨j, rfl⟩ := Orem_pos hg
        show 0 < (if 22 ≤ 22 + (rix c j).val then 2 else 0)
        rw [if_pos (by omega)]; decide)
/-- the barrier wait while only receive credits are. -/
theorem mayWait_bar (c : Dev nD) (i : ℕ) :
    (levAts L lv : sProp 𝕄) ⊢ MayWait (c : Thread nD τ) (.reg barS) () (Orem c i) := by
  refine MayOwe.of_cut (L := L) (lev := lv) 1 (fun p hp => by rw [Finset.mem_singleton.mp hp, L_tc]; exact Finset.mem_singleton_self _)
      (fun g u hg => by obtain ⟨j, rfl⟩ := Orem_pos hg; exact Finset.mem_singleton_self _)
      (fun p hp => by rw [Finset.mem_singleton.mp hp]; exact Nat.le_refl 1)
      (fun g u hg => by
        obtain ⟨j, rfl⟩ := Orem_pos hg
        show 1 < (if 22 ≤ 22 + (rix c j).val then 2 else 0)
        rw [if_pos (by omega)]; decide)

end Cert.KernelProof

end
-- ==== Proof.KernelContents.lean ====
/-
  What each copy, load and store moves, element by element: a staging slot receives the weights' columns of its point,
  a send slot holds the block made from them, and a landed block is the receiving device's result there.
-/
module

public import proofs.«01_k».proof.Proof.KernelCommon

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
variable (m : (ℓ : Loc nD τ sig) → Buf (Elt F) ℓ)

/-! ## Where a view's elements lie -/

theorem wV_emb (c : Dev nD) (i : ℕ) (a : Fin 8192) (b : Fin 256) :
    (wV c i).view.emb (ix2 a b)
      = ix2 a (⟨512 * ((c.val + i / 2 + 1) % 8) + 256 * (i % 2) + b.val, wcol_lt c i b.val b.isLt⟩ : Fin 4096) := by
  funext x; apply Fin.ext
  match x with
  | ⟨0, _⟩ => show 0 + 1 * a.val = a.val; omega
  | ⟨1, _⟩ => show 512 * ((c.val + i / 2 + 1) % 8) + 256 * (i % 2) + 1 * b.val = _; rw [Nat.one_mul]
theorem stV_emb (s : Fin 2) (a : Fin 8192) (b : Fin 256) : (stV s).view.emb (ix2 a b) = ix3 s a b := by
  refine (congrArg (stM.slice (stR s) (fun _ => rfl)).view.emb (reshapeEquiv_ix2_1ab _ a b)).trans ?_
  funext x; apply Fin.ext
  match x with
  | ⟨0, _⟩ => show s.val + 1 * 0 = s.val; omega
  | ⟨1, _⟩ => show 0 + 1 * a.val = a.val; omega
  | ⟨2, _⟩ => show 0 + 1 * b.val = b.val; omega
theorem sbV_emb (j : Fin 16) (a : Fin 1024) (b : Fin 256) : (sbV j).view.emb (ix2 a b) = ix3 j a b := by
  refine (congrArg (sbM.slice (sbR j) (fun _ => rfl)).view.emb (reshapeEquiv_ix2_1ab _ a b)).trans ?_
  funext x; apply Fin.ext
  match x with
  | ⟨0, _⟩ => show j.val + 1 * 0 = j.val; omega
  | ⟨1, _⟩ => show 0 + 1 * a.val = a.val; omega
  | ⟨2, _⟩ => show 0 + 1 * b.val = b.val; omega
theorem oV_emb (d : Dev nD) (cc : Fin 2) (a : Fin 1024) (b : Fin 256) :
    (oV d cc).view.emb (ix2 a b)
      = ix2 (⟨1024 * d.val + a.val, by have : d.val < 8 := d.isLt; omega⟩ : Fin 8192) (⟨256 * cc.val + b.val, by omega⟩ : Fin 512) := by
  funext x; apply Fin.ext
  match x with
  | ⟨0, _⟩ => show 1024 * d.val + 1 * a.val = _; rw [Nat.one_mul]
  | ⟨1, _⟩ => show 256 * cc.val + 1 * b.val = _; rw [Nat.one_mul]

/-! ## What lands -/

/-- A fetched slot holds the weights' columns of its point. -/
theorem fetched (c : Dev nD) (i : ℕ) (s : Fin 2) (fd : S2x8192x256.Idx → Elt F .f32) :
    ∀ y ∈ (stR s).set, (stV s).view.write (Elt F) fd ((wV c i).view.read (Elt F) (W m c)) Finset.univ y = WS m c i y := by
  intro y hy
  rw [← stV_set] at hy
  obtain ⟨z, _, rfl⟩ := Finset.mem_map.mp hy
  rw [View.write_emb, if_pos (Finset.mem_univ _), View.read_apply]
  show W m c ((wV c i).view.emb z) = WS m c i ((stV s).view.emb z)
  obtain ⟨a, b, rfl⟩ : ∃ (a : Fin 8192) (b : Fin 256), z = ix2 a b := ⟨z 0, z 1, eq_ix2 z⟩
  rw [wV_emb, stV_emb]
  rfl

/-- A block landed, from send slot `j` of device `c`, in rows `c` and column half `cc` of device `s`'s result. -/
theorem landed (c s : Dev nD) (j : Fin 16) (cc : Fin 2) (hs : s = dest c j.val) (hcc : cc.val = j.val % 2) (fd : S8192x512.Idx → Elt F .bf16) :
    ∀ y ∈ (oR c cc).set, (oV c cc).view.write (Elt F) fd ((sbV j).view.read (Elt F) (SB m c)) Finset.univ y = OUT m s y := by
  intro y hy
  rw [← oV_set] at hy
  obtain ⟨z, _, rfl⟩ := Finset.mem_map.mp hy
  rw [View.write_emb, if_pos (Finset.mem_univ _), View.read_apply]
  show SB m c ((sbV j).view.emb z) = OUT m s ((oV c cc).view.emb z)
  obtain ⟨a, b, rfl⟩ : ∃ (a : Fin 1024) (b : Fin 256), z = ix2 a b := ⟨z 0, z 1, eq_ix2 z⟩
  rw [sbV_emb, oV_emb]
  have ha : a.val < 1024 := a.isLt
  have hb : b.val < 256 := b.isLt
  have hj : j.val < 16 := j.isLt
  have hc : c.val < 8 := c.isLt
  show blk m c j.val (ix3 (0 : Fin 1) a b) = blk m (dv ((1024 * c.val + a.val) / 1024))
    (2 * ((s.val + 15 - (1024 * c.val + a.val) / 1024) % 8) + (256 * cc.val + b.val) / 256)
    (ix3 (0 : Fin 1) (⟨(1024 * c.val + a.val) % 1024, _⟩ : Fin 1024) (⟨(256 * cc.val + b.val) % 256, _⟩ : Fin 256))
  have h1 : (1024 * c.val + a.val) / 1024 = c.val := by omega
  have h2 : (256 * cc.val + b.val) / 256 = cc.val := by omega
  have h3 : (⟨(1024 * c.val + a.val) % 1024, Nat.mod_lt _ (by decide)⟩ : Fin 1024) = a := Fin.ext (by show (1024 * c.val + a.val) % 1024 = a.val; omega)
  have h4 : (⟨(256 * cc.val + b.val) % 256, Nat.mod_lt _ (by decide)⟩ : Fin 256) = b := Fin.ext (by show (256 * cc.val + b.val) % 256 = b.val; omega)
  have h5 : dv c.val = c := Fin.ext (by show c.val % 8 = c.val; omega)
  have h6 : 2 * ((s.val + 15 - c.val) % 8) + cc.val = j.val := by
    subst hs
    show 2 * (((c.val + j.val / 2 + 1) % 8 + 15 - c.val) % 8) + cc.val = j.val
    omega
  rw [h3, h4, h1, h2, h5, h6]

/-! ## Loads and stores -/

/-- The slot's load reads the columns of the point. -/
theorem slot_load (c : Dev nD) (i : ℕ) (off : Fin 3 → ℕ) (inb) (s : Fin 2) (h : off = stOff s) :
    stM.view.readAt (Elt F) (Rect.unit (s := S2x8192x256) off S1x8192x256.size inb).toLoadRect (WS m c i) = wv m c i := by
  subst h
  funext y
  rw [View.readAt_apply, View.read_apply]
  show wAt m c i _ _ = wAt m c i _ _
  congr 1 <;> apply Fin.ext
  · show 0 + 1 * (y 1).val = (y 1).val; omega
  · show 0 + 1 * (y 2).val = (y 2).val; omega
theorem x_load (c : Dev nD) (inb) :
    xM.view.readAt (Elt F) (Rect.unit (s := S1024x8192) ![0, 0] S1024x8192.size inb).toLoadRect (X m c) = X m c :=
  Memref.readAt_unit_zero (Elt F) cc0_stg0_0 (funext fun a => by fin_cases a <;> rfl) _ _
/-- The stored block is the send buffer's there. -/
theorem slot_store (c : Dev nD) (off : Fin 3 → ℕ) (inb) (j : Fin 16) (h : off = sbOff j) (fd : S16x1024x256.Idx → Elt F .bf16) :
    ∀ y ∈ (sbR j).set, (sbM.access (Rect.unit (s := S16x1024x256) off S1x1024x256.size inb)).write (Elt F) fd (blk m c j.val) Finset.univ y
      = SB m c y := by
  subst h
  intro y hy
  have hset : (sbM.access (sbR j)).set = (sbR j).set := View.set_slice_whole _ _
  rw [← hset] at hy
  obtain ⟨z, _, rfl⟩ := Finset.mem_map.mp hy
  refine (View.write_emb (v := sbM.access (sbR j)) _ _ _ z).trans ?_
  rw [if_pos (Finset.mem_univ _)]
  show blk m c j.val z = blk m c ((sbM.access (sbR j)).emb z 0).val (ix3 (0 : Fin 1) ((sbM.access (sbR j)).emb z 1) ((sbM.access (sbR j)).emb z 2))
  have hz0 : (z 0).val = 0 := Nat.lt_one_iff.mp (z 0).isLt
  have e0 : ((sbM.access (sbR j)).emb z 0).val = j.val := by show j.val + 1 * (z 0).val = j.val; omega
  have e1 : (sbM.access (sbR j)).emb z 1 = z 1 := Fin.ext (by show 0 + 1 * (z 1).val = (z 1).val; omega)
  have e2 : (sbM.access (sbR j)).emb z 2 = z 2 := Fin.ext (by show 0 + 1 * (z 2).val = (z 2).val; omega)
  rw [e0, e1, e2]
  congr 1
  funext x; apply Fin.ext
  match x with
  | ⟨0, _⟩ => exact hz0
  | ⟨1, _⟩ => rfl
  | ⟨2, _⟩ => rfl

end Cert.KernelProof

end
-- ==== Proof.KernelSteps.lean ====
/-
  One lemma per kind of operation of the kernel's body: the weights' fetch and its wait, a barrier signal, the barrier
  wait, the copy of a block to its device, the receive waits, the send waits, and the two local copies with their waits.
  Each takes what the device holds before the operation to what it holds after, for any offsets equal to the block's.
-/
module

public import proofs.«01_k».proof.Proof.KernelContents

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig Unit (Elt F) ℕ UU ℕ

abbrev EC : UEmb Counters (MT nD τ sig Unit (Elt F) ℕ UU ℕ) := countersEmb

abbrev 𝒱₀ : Variants := Variants.none

/-- The weakest precondition of a stretch of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)
-- The names of the cells' invariants.
variable (κ : GSem nD τ sig → ℕ)

abbrev cinv (g : GSem nD τ sig) : sProp 𝕄 := cellInv ER (Rd m) (κ g) g

/-- What device `c` owes, under some record of the waits it has made. -/
def Owes (c : Dev nD) (O : CellTallies nD τ sig Unit) : sProp 𝕄 := iprop(∃ Wt : Waits sig Unit, owes (c : Thread nD τ) O Wt)

/-! ## The weights -/

/-- The share of the weights staging slot `s`'s fetches read. -/
def hs (s : Fin 2) : PosShare TreeShare := if s = 0 then fullShare.left else fullShare.right

/-- Slot `s` at rest, at any contents; -/
def WIdle (c : Dev nD) (s : Fin 2) : sProp 𝕄 :=
  iprop((∃ f : Buf (Elt F) (stLoc c), stLoc c ↦[(stR s).set]{fullShare} f) ∗ semVal ((c : Thread nD τ), SemLoc.dma (wS s)) 0 ∗ wLoc c ↦{hs s} W m c)
/-- its fetch of point `i`'s columns in flight; -/
def WFly (c : Dev nD) (s : Fin 2) (i : ℕ) : sProp 𝕄 :=
  iprop(Flight EC (c : Thread nD τ) (.dma (wS s)) () NW
      iprop((stLoc c ↦[(stR s).set]{fullShare} WS m c i) ∗ (wLoc c ↦[(wR c i).set]{hs s} W m c))
    ∗ wLoc c ↦[Finset.univ \ (wR c i).set]{hs s} W m c)
/-- that fetch landed. -/
def WLand (c : Dev nD) (s : Fin 2) (i : ℕ) : sProp 𝕄 :=
  iprop((stLoc c ↦[(stR s).set]{fullShare} WS m c i) ∗ semVal ((c : Thread nD τ), SemLoc.dma (wS s)) 0 ∗ wLoc c ↦{hs s} W m c)

theorem WLand_idle (c : Dev nD) (s : Fin 2) (i : ℕ) : WLand m c s i ⊢ WIdle m c s := by
  unfold WLand WIdle
  iintro ⟨H, Hs⟩
  isplitl [H]
  · iexists _; iexact H
  · iexact Hs

theorem fetch_step (c : Dev nD) (s : Fin 2) (i : ℕ) {offw : Fin 2 → ℕ} {inbw} {offs : Fin 3 → ℕ} {inbs} {sem : DmaSem sig}
    (hw : offw = wOff c i) (hst : offs = stOff s) (hsem : sem = wS s) {α : Type} {Q : α → sProp 𝕄}
    {k : PUnit → Prog (TpuEff nD τ sig (Elt F) Λ₀ .tc) α} {h1 h2 h3} :
    WIdle m c s ⊢ iprop((WFly m c s i -∗ WP c (k ⟨⟩) Q)
      -∗ WP c (.op (.enqueueDma (wM.slice (Rect.unit (s := S8192x4096) offw S8192x256.size inbw) (fun _ => rfl))
          (.here ((stM.slice (Rect.unit (s := S2x8192x256) offs S1x8192x256.size inbs) (fun _ => rfl)).squeeze S8192x256 squeezes_S1x8192x256_S8192x256))
          (.dma sem) h1 h2 h3) k) Q) := by
  subst hw; subst hst; subst hsem
  unfold WIdle
  iintro ⟨⟨%f, Hf⟩, Hv, Hw⟩ Hk
  ihave Hw := (pointsTo_split_subset (Finset.subset_univ (wR c i).set)).1 $$ Hw
  icases Hw with ⟨Hw, Hrest⟩
  iapply (wp_dmaLocal EC 𝒱₀ (c : Thread nD τ) none (src := wV c i) (dst := stV s) (sm := .dma (wS s)) (q := hs s) (fs := W m c)
    (Sd := (stR s).set) (fd := f) () NW rfl NW_pos (by rw [stV_set])) $$ [Hf Hv Hw]
  · isplitl [Hw]; · rw [wV_set]; iexact Hw
    isplitl [Hf]; · iexact Hf
    iexact Hv
  iintro Hfl
  iapply Hk
  unfold WFly
  isplitl [Hfl]
  · iapply (Flight_mono EC (c := (c : Thread nD τ)) ?_) $$ Hfl
    rw [wV_set]
    exact BI.sep_mono (Entails.of_eq (pointsTo_congr (fetched m c i s f))) (Entails.refl _)
  · iexact Hrest

theorem fetch_wait (c : Dev nD) (s : Fin 2) (i : ℕ) {src : Memref sig .tc .hbm S8192x256 .f32} {dst : Memref sig .tc .vmem S8192x256 .f32}
    {sem : DmaSem sig} (hN : dst.view.dmaCredit = NW) (hsem : sem = wS s) {O : CellTallies nD τ sig Unit} {α : Type} {Q : α → sProp 𝕄}
    {k : PUnit → Prog (TpuEff nD τ sig (Elt F) Λ₀ .tc) α} {h1 h2} :
    iprop(WFly m c s i ∗ Owes c O ∗ MayWait (c : Thread nD τ) (.dma (wS s)) () O)
      ⊢ iprop((iprop(WLand m c s i ∗ Owes c O) -∗ WP c (k ⟨⟩) Q) -∗ WP c (.op (.waitDma2 sem src dst h1 h2) k) Q) := by
  subst hsem
  unfold WFly Owes
  iintro ⟨⟨Hfl, Hrest⟩, ⟨%Wt, HO⟩, Hmw⟩ Hk
  iapply (wp_waitLocalO EC 𝒱₀ (c : Thread nD τ) none () hN) $$ [Hfl HO Hmw]
  · isplitl [Hfl]; · iexact Hfl
    isplitl [HO]; · iexact HO
    iexact Hmw
  iintro ⟨⟨Hst, Hw⟩, Hv, HO⟩
  iapply Hk
  isplitr [HO]
  · unfold WLand
    isplitl [Hst]; · iexact Hst
    isplitl [Hv]; · iexact Hv
    iapply (pointsTo_split_subset (Finset.subset_univ (wR c i).set)).2
    isplitl [Hw]; · iexact Hw
    iexact Hrest
  · iexists _; iexact HO

/-! ## The barrier -/

/-- What device `c` holds for its signal to device number `n`: the duty's token and what the signal hands over. -/
def sigTok (c : Dev nD) (n : ℕ) : sProp 𝕄 :=
  if dv n = c then iprop(emp) else iprop(cinv m κ (barCell (dv n)) ∗ dutyTok ER (barCell (dv n)) 0 c ∗ barPay (dv n) c ∗ reached ER (barCell (dv n)) 0)

theorem signal_step (c : Dev nD) (n : ℕ) (hn : n < 8) (hc : dv n ≠ c) {dst : Dev nD} (hd : dst = dv n) {α : Type} {Q : α → sProp 𝕄}
    {k : PUnit → Prog (TpuEff nD τ sig (Elt F) Λ₀ .tc) α} :
    iprop(sigTok m κ c n ∗ Owes c (Osig c n))
      ⊢ iprop((Owes c (Osig c (n + 1)) -∗ WP c (k ⟨⟩) Q) -∗ WP c (.op (.semSignal (Dev.tc dst) barS 1) k) Q) := by
  subst hd
  unfold sigTok Owes
  rw [if_neg hc]
  iintro ⟨⟨Hi, Ht, Hp, Hr⟩, ⟨%Wt, HO⟩⟩ Hk
  iapply (Rounds.wp_signal 𝒱₀ ER (Rd m) (c : Thread nD τ) none (dst := (dv n : Thread nD τ)) (κ := κ (barCell (dv n)))
      (r := 0) (d := c) (by rw [duties_bar]; exact Finset.mem_erase.mpr ⟨fun h => hc h.symm, Finset.mem_univ _⟩) rfl () (Osig c (n + 1))
      (O₀ := Osig c n) (by rw [Osig_succ c n hn, obar, if_neg hc]; rfl) (W := Wt)) $$ [Hi Ht Hp Hr HO]
  · isplitl [Hi]; · iexact Hi
    isplitl [HO]; · iexact HO
    isplitl [Ht]; · iexact Ht
    isplitl [Hp]; · iapply (Entails.of_eq (show barPay (F := F) (dv n) c = (Rd m).payload (barCell (dv n)) 0 c from rfl)); iexact Hp
    iexact Hr
  iintro HO
  iapply Hk
  iexists _; iexact HO

theorem signal_skip (c : Dev nD) (n : ℕ) (hn : n < 8) (hc : dv n = c) :
    (Owes (F := F) c (Osig c n)) ⊢ Owes c (Osig c (n + 1)) := by
  rw [Osig_succ c n hn, obar, if_pos hc, add_zero]

theorem bar_wait (c : Dev nD) {α : Type} {Q : α → sProp 𝕄} {k : PUnit → Prog (TpuEff nD τ sig (Elt F) Λ₀ .tc) α} :
    iprop(cinv m κ (barCell c) ∗ cred (tallyAt (barCell c) () 7) ∗ Owes c (Orem c 0) ∗ levAts L lv ∗ atPos ER (barCell c) 0 ∅ 0)
      ⊢ iprop((iprop(Owes c (Orem c 0) ∗ atPos ER (barCell c) 1 ∅ 0 ∗ bigSep (Finset.univ.erase c) fun d => barPay (F := F) c d) -∗ WP c (k ⟨⟩) Q)
        -∗ WP c (.op (.semWait barS 7) k) Q) := by
  unfold Owes
  iintro ⟨Hi, Hc, ⟨%Wt, HO⟩, Hl, Hat⟩ Hk
  iapply (Rounds.wp_wait_rest_token 𝒱₀ ER (Rd m) (c : Thread nD τ) none (κ := κ (barCell c))
      (wpE_semWait_eq 𝒱₀ (c : Thread nD τ) none Set.univ) (Set.mem_univ _) () (O := Orem c 0) (W := Wt) (R := 0) (m := 0) (T := ∅)
      (by rw [expect_bar])) $$ [Hi Hc HO Hl Hat]
  · isplitl [Hi]; · iexact Hi
    isplitl [Hc]; · iexact Hc
    isplitl [HO]; · iexact HO
    isplitl [Hl]; · iapply (mayWait_bar c 0); iexact Hl
    iexact Hat
  iintro ⟨HO, Hat, -, Hpay⟩
  iapply Hk
  ihave Hp := (Entails.of_eq (rest_bar m c)) $$ Hpay
  isplitl [HO]; · iexists _; iexact HO
  isplitl [Hat]; · iexact Hat
  iexact Hp

/-! ## The copies to the other devices -/

/-- The column half of point `i`'s block. -/
def half (i : ℕ) : Fin 2 := ⟨i % 2, Nat.mod_lt _ (by decide)⟩

/-- What device `c` holds for the copy of point `j`: the block it fills, and the two duties' tokens. -/
def copyTok (c : Dev nD) (j : Fin 16) : sProp 𝕄 :=
  iprop((∃ f : Buf (Elt F) (oLoc (dest c j.val)), oLoc (dest c j.val) ↦[(oR c (half j.val)).set]{fullShare} f)
    ∗ cinv m κ (sendCell c j) ∗ cinv m κ (recvCell (dest c j.val) (rix c j.val))
    ∗ dutyTok ER (sendCell c j) 0 c ∗ reached ER (sendCell c j) 0
    ∗ dutyTok ER (recvCell (dest c j.val) (rix c j.val)) 0 (dest c j.val) ∗ reached ER (recvCell (dest c j.val) (rix c j.val)) 0)

theorem rix_half (c : Dev nD) (i : ℕ) : (rix c i).val % 2 = i % 2 ∧ (rix c i).val / 2 = c.val := by
  constructor
  · show (2 * c.val + i % 2) % 2 = i % 2; omega
  · show (2 * c.val + i % 2) / 2 = c.val; omega

theorem recvPay_dest (c : Dev nD) (i : ℕ) : recvPay m (dest c i) (rix c i) = (oLoc (dest c i) ↦[(oR c (half i)).set]{fullShare} OUT m (dest c i) : sProp 𝕄) := by
  unfold recvPay
  have h1 : dv ((rix c i).val / 2) = c := Fin.ext (by
    show (rix c i).val / 2 % 8 = c.val
    rw [(rix_half c i).2]; have : c.val < 8 := c.isLt; omega)
  have h2 : (⟨(rix c i).val % 2, Nat.mod_lt _ (by decide)⟩ : Fin 2) = half i := Fin.ext (rix_half c i).1
  rw [h1, h2]

theorem send_step (c : Dev nD) (j : Fin 16) (hj : j.val < 14) {n : Dev nD} (hn : n = dest c j.val)
    {offs : Fin 3 → ℕ} {inbs} {offo : Fin 2 → ℕ} {inbo} {sS sR : DmaSem sig}
    (ho : offs = sbOff j) (hoo : offo = oOff c (half j.val)) (hsS : sS = sendS j) (hsR : sR = recvS (rix c j.val))
    {α : Type} {Q : α → sProp 𝕄} {k : PUnit → Prog (TpuEff nD τ sig (Elt F) Λ₀ .tc) α} {h1} {hsc}
    {h2 : (oM.slice (Rect.unit (s := S8192x512) offo S1024x256.size inbo) (fun _ => rfl)).view.WordExact}
    {h3 : DmaTarget.Typed .vmem (.dma sR) (.remote (Dev.tc n : Thread nD τ) (oM.slice (Rect.unit (s := S8192x512) offo S1024x256.size inbo) (fun _ => rfl)) (.dma sS) hsc)} :
    iprop(copyTok m κ c j ∗ (sbLoc c ↦[(sbR j).set]{fullShare} SB m c) ∗ Owes c (Orem c j.val))
      ⊢ iprop((iprop(cred (tallyAt (sendCell c j) () N) ∗ Owes c (Orem c (j.val + 1))) -∗ WP c (k ⟨⟩) Q)
        -∗ WP c (.op (.enqueueDma ((sbM.slice (Rect.unit (s := S16x1024x256) offs S1x1024x256.size inbs) (fun _ => rfl)).squeeze S1024x256 squeezes_S1x1024x256_S1024x256)
            (.remote (Dev.tc n : Thread nD τ) (oM.slice (Rect.unit (s := S8192x512) offo S1024x256.size inbo) (fun _ => rfl)) (.dma sS) hsc)
            (.dma sR) h1 h2 h3) k) Q) := by
  subst hn; subst ho; subst hoo; subst hsS; subst hsR
  unfold copyTok Owes
  iintro ⟨⟨⟨%f, Hf⟩, Hi1, Hi2, Ht1, Hr1, Ht2, Hr2⟩, Hs, ⟨%Wt, HO⟩⟩ Hk
  have hne := dest_ne c j.val hj
  iapply (Rounds.wp_send_pointsTo 𝒱₀ ER (Rd m) (c : Thread nD τ) none (κ₁ := κ (sendCell c j)) (κ₂ := κ (recvCell (dest c j.val) (rix c j.val)))
    (c' := (dest c j.val : Thread nD τ)) (src := sbV j) (dst := oV c (half j.val)) (q := fullShare) (fs := SB m c)
    (r₁ := 0) (r₂ := 0) (d₁ := c) (d₂ := dest c j.val) (fd := f)
    (by rw [duties_send m c j hj]; exact Finset.mem_singleton_self _)
    (by rw [duties_recv m (dest c j.val) (rix c j.val) (by rw [(rix_half c j.val).2]; exact fun h => hne (Fin.ext h.symm))]; exact Finset.mem_singleton_self _)
    () () N rfl rfl rfl (Orem c (j.val + 1)) (Orem_succ c j.val hj) (W := Wt)
    (by rw [payload_send, sbV_set]; exact Entails.refl _)
    (by rw [payload_recv, recvPay_dest, oV_set]
        exact Entails.of_eq (pointsTo_congr (landed m c (dest c j.val) j (half j.val) rfl rfl f))))
    $$ [Hf Hi1 Hi2 Ht1 Hr1 Ht2 Hr2 Hs HO]
  · isplitl [Hi1]; · iexact Hi1
    isplitl [Hi2]; · iexact Hi2
    isplitl [Hs]; · rw [sbV_set]; iexact Hs
    isplitl [Hf]; · rw [oV_set]; iexact Hf
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

/-- A receive cell before its wait, for a cell another device pays; -/
def recvTok (c : Dev nD) (k : Fin 16) : sProp 𝕄 :=
  iprop(cinv m κ (recvCell c k) ∗ cred (tallyAt (recvCell c k) () N) ∗ atPos ER (recvCell c k) 0 ∅ 0)
/-- and after. -/
def recvGot (c : Dev nD) (k : Fin 16) : sProp 𝕄 :=
  iprop(cinv m κ (recvCell c k) ∗ atPos ER (recvCell c k) 1 ∅ 0 ∗ recvPay m c k)

theorem cinv_persistent (g : GSem nD τ sig) : BI.Persistent (cinv (F := F) m κ g) := by infer_instance

theorem recv_step (c : Dev nD) (k : Fin 16) (hk : k.val / 2 ≠ c.val) {sem : DmaSem sig} (hsem : sem = recvS k)
    {src dst : Memref sig .tc .vmem S1024x256 .bf16} (hN : dst.view.dmaCredit = N)
    {α : Type} {Q : α → sProp 𝕄} {kk : PUnit → Prog (TpuEff nD τ sig (Elt F) Λ₀ .tc) α} {h1 h2} :
    iprop(recvTok m κ c k ∗ Owes c 0)
      ⊢ iprop((iprop(recvGot m κ c k ∗ Owes c 0) -∗ WP c (kk ⟨⟩) Q) -∗ WP c (.op (.waitDma2 sem src dst h1 h2) kk) Q) := by
  subst hsem
  unfold recvTok recvGot Owes
  iintro ⟨⟨#Hi, Hc, Hat⟩, ⟨%Wt, HO⟩⟩ Hk
  iapply (Rounds.wp_wait_rest_token 𝒱₀ ER (Rd m) (c : Thread nD τ) none (κ := κ (recvCell c k))
      (wpE_waitDma2_eq 𝒱₀ (c : Thread nD τ) none Set.univ) (Set.mem_univ _) () (O := 0) (W := Wt) (R := 0) (m := 0) (T := ∅)
      (by rw [expect_recv m c k hk, hN, Nat.zero_add])) $$ [Hc HO Hat]
  · isplitr; · iexact Hi
    isplitl [Hc]; · rw [hN]; iexact Hc
    isplitl [HO]; · iexact HO
    isplitr; · rw [MayWait_zero]; iempintro
    iexact Hat
  iintro ⟨HO, Hat, -, Hpay⟩
  iapply Hk
  ihave Hp := (Entails.of_eq (rest_recv m c k hk)) $$ Hpay
  isplitr [HO]
  · isplitr; · iexact Hi
    isplitl [Hat]; · iexact Hat
    iexact Hp
  · iexists _; iexact HO

/-- A send cell before its wait, and after. -/
def sendTok (c : Dev nD) (j : Fin 16) : sProp 𝕄 :=
  iprop(cinv m κ (sendCell c j) ∗ cred (tallyAt (sendCell c j) () N) ∗ atPos ER (sendCell c j) 0 ∅ 0)
def sendGot (c : Dev nD) (j : Fin 16) : sProp 𝕄 :=
  iprop(cinv m κ (sendCell c j) ∗ atPos ER (sendCell c j) 1 ∅ 0 ∗ sbLoc c ↦[(sbR j).set]{fullShare} SB m c)

theorem sent_step (c : Dev nD) (k : Fin 16) (hk : k.val < 14) {sem : DmaSem sig} (hsem : sem = sendS k)
    {src dst : Memref sig .tc .vmem S1024x256 .bf16} (hN : dst.view.dmaCredit = N)
    {α : Type} {Q : α → sProp 𝕄} {kk : PUnit → Prog (TpuEff nD τ sig (Elt F) Λ₀ .tc) α} {h1 h2} :
    iprop(sendTok m κ c k ∗ Owes c 0)
      ⊢ iprop((iprop(sendGot m κ c k ∗ Owes c 0) -∗ WP c (kk ⟨⟩) Q) -∗ WP c (.op (.waitDma2 sem src dst h1 h2) kk) Q) := by
  subst hsem
  unfold sendTok sendGot Owes
  iintro ⟨⟨#Hi, Hc, Hat⟩, ⟨%Wt, HO⟩⟩ Hk
  iapply (Rounds.wp_wait_rest_token 𝒱₀ ER (Rd m) (c : Thread nD τ) none (κ := κ (sendCell c k))
      (wpE_waitDma2_eq 𝒱₀ (c : Thread nD τ) none Set.univ) (Set.mem_univ _) () (O := 0) (W := Wt) (R := 0) (m := 0) (T := ∅)
      (by rw [expect_send m c k hk, hN, Nat.zero_add])) $$ [Hc HO Hat]
  · isplitr; · iexact Hi
    isplitl [Hc]; · rw [hN]; iexact Hc
    isplitl [HO]; · iexact HO
    isplitr; · rw [MayWait_zero]; iempintro
    iexact Hat
  iintro ⟨HO, Hat, -, Hpay⟩
  iapply Hk
  ihave Hp := (Entails.of_eq ((rest_send m c k hk).trans (show sendPay m c k = (sbLoc c ↦[(sbR k).set]{fullShare} SB m c) from rfl))) $$ Hpay
  isplitr [HO]
  · isplitr; · iexact Hi
    isplitl [Hat]; · iexact Hat
    iexact Hp
  · iexists _; iexact HO

/-! ## The device's own two blocks -/

/-- Slot `14 + cc` of the send buffer. -/
def own (cc : Fin 2) : Fin 16 := ⟨14 + cc.val, by omega⟩

/-- Before the local copy of half `cc`: the block it fills, the slot it reads and its semaphore; -/
def locTok (c : Dev nD) (cc : Fin 2) : sProp 𝕄 :=
  iprop((∃ f : Buf (Elt F) (oLoc c), oLoc c ↦[(oR c cc).set]{fullShare} f) ∗ (sbLoc c ↦[(sbR (own cc)).set]{fullShare} SB m c)
    ∗ semVal ((c : Thread nD τ), SemLoc.dma (locS cc)) 0)
/-- the copy in flight; -/
def locFly (c : Dev nD) (cc : Fin 2) : sProp 𝕄 :=
  Flight EC (c : Thread nD τ) (.dma (locS cc)) () N
      iprop((oLoc c ↦[(oR c cc).set]{fullShare} OUT m c) ∗ (sbLoc c ↦[(sbR (own cc)).set]{fullShare} SB m c))
/-- and landed. -/
def locGot (c : Dev nD) (cc : Fin 2) : sProp 𝕄 :=
  iprop((oLoc c ↦[(oR c cc).set]{fullShare} OUT m c) ∗ (sbLoc c ↦[(sbR (own cc)).set]{fullShare} SB m c)
    ∗ semVal ((c : Thread nD τ), SemLoc.dma (locS cc)) 0)

theorem dest_own (c : Dev nD) (cc : Fin 2) : c = dest c (own cc).val := Fin.ext (by
  have : c.val < 8 := c.isLt
  show c.val = (c.val + (14 + cc.val) / 2 + 1) % 8
  omega)

theorem loc_step (c : Dev nD) (cc : Fin 2) {offs : Fin 3 → ℕ} {inbs} {offo : Fin 2 → ℕ} {inbo} {sem : DmaSem sig}
    (ho : offs = sbOff (own cc)) (hoo : offo = oOff c cc) (hsem : sem = locS cc)
    {α : Type} {Q : α → sProp 𝕄} {k : PUnit → Prog (TpuEff nD τ sig (Elt F) Λ₀ .tc) α} {h1 h2 h3} :
    locTok m c cc ⊢ iprop((locFly m c cc -∗ WP c (k ⟨⟩) Q)
      -∗ WP c (.op (.enqueueDma ((sbM.slice (Rect.unit (s := S16x1024x256) offs S1x1024x256.size inbs) (fun _ => rfl)).squeeze S1024x256 squeezes_S1x1024x256_S1024x256)
          (.here (oM.slice (Rect.unit (s := S8192x512) offo S1024x256.size inbo) (fun _ => rfl))) (.dma sem) h1 h2 h3) k) Q) := by
  subst ho; subst hoo; subst hsem
  unfold locTok
  iintro ⟨⟨%f, Hf⟩, Hs, Hv⟩ Hk
  iapply (wp_dmaLocal EC 𝒱₀ (c : Thread nD τ) none (src := sbV (own cc)) (dst := oV c cc) (sm := .dma (locS cc)) (q := fullShare) (fs := SB m c)
    (Sd := (oR c cc).set) (fd := f) () N rfl N_pos (by rw [oV_set])) $$ [Hf Hv Hs]
  · isplitl [Hs]; · rw [sbV_set]; iexact Hs
    isplitl [Hf]; · iexact Hf
    iexact Hv
  iintro Hfl
  iapply Hk
  unfold locFly
  iapply (Flight_mono EC (c := (c : Thread nD τ)) ?_) $$ Hfl
  rw [sbV_set]
  refine BI.sep_mono (Entails.of_eq (pointsTo_congr (landed m c c (own cc) cc (dest_own c cc) ?_ f))) (Entails.refl _)
  show cc.val = (14 + cc.val) % 2
  omega

theorem loc_wait (c : Dev nD) (cc : Fin 2) {src dst : Memref sig .tc .vmem S1024x256 .bf16} {sem : DmaSem sig}
    (hN : dst.view.dmaCredit = N) (hsem : sem = locS cc)
    {α : Type} {Q : α → sProp 𝕄} {k : PUnit → Prog (TpuEff nD τ sig (Elt F) Λ₀ .tc) α} {h1 h2} :
    iprop(locFly m c cc ∗ Owes c 0)
      ⊢ iprop((iprop(locGot m c cc ∗ Owes c 0) -∗ WP c (k ⟨⟩) Q) -∗ WP c (.op (.waitDma2 sem src dst h1 h2) k) Q) := by
  subst hsem
  unfold locFly locGot Owes
  iintro ⟨Hfl, ⟨%Wt, HO⟩⟩ Hk
  iapply (wp_waitLocalO EC 𝒱₀ (c : Thread nD τ) none () hN) $$ [Hfl HO]
  · isplitl [Hfl]; · iexact Hfl
    isplitl [HO]; · iexact HO
    rw [MayWait_zero]; iempintro
  iintro ⟨⟨Ho, Hs⟩, Hv, HO⟩
  iapply Hk
  isplitr [HO]
  · isplitl [Ho]; · iexact Ho
    isplitl [Hs]; · iexact Hs
    iexact Hv
  · iexists _; iexact HO

end Cert.KernelProof

end
-- ==== Proof.KernelState.lean ====
/-
  What a device holds before each grid point, and the first stage of the body: at the first point the fetch of the first
  columns, a signal to every other device and the wait for theirs.
-/
module

public import proofs.«01_k».proof.Proof.KernelSteps

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (κ : GSem nD τ sig → ℕ)

/-! ## The printed conditions -/

theorem cond1_iff : ∀ i : grid0.Coords, k0_cond1 i = 1#1 ↔ (i 0).val = 0 := by decide +kernel
theorem cond10_iff : ∀ i : grid0.Coords, k0_cond10 i = 1#1 ↔ (i 0).val < 15 := by decide +kernel
theorem cond11_iff : ∀ (i : grid0.Coords) (c : Dev nD), k0_cond11 i c = 1#1 ↔ (i 0).val < 14 := by decide +kernel
theorem cond12_iff : ∀ i : grid0.Coords, k0_cond12 i = 1#1 ↔ (i 0).val = 15 := by decide +kernel

/-! ## Sequencing -/

/-- A stretch of the body, from what it is proved to take and leave, with what follows it. -/
theorem wp_seq (c : Dev nD) {P Q : sProp 𝕄} {α : Type} {p : Prog (TpuEff nD τ sig (Elt F) Λ₀ .tc) PUnit}
    {k : PUnit → Prog (TpuEff nD τ sig (Elt F) Λ₀ .tc) α} {K : α → sProp 𝕄}
    (h : ∀ K' : PUnit → sProp 𝕄, P ⊢ iprop((Q -∗ K' ⟨⟩) -∗ WP c p K')) :
    P ⊢ iprop((Q -∗ WP c (k ⟨⟩) K) -∗ WP c (p >>= k) K) := by
  show P ⊢ iprop((Q -∗ WP c (k ⟨⟩) K) -∗ wp frame (wpE (defs₀ (F := F)) 𝒱₀ (c : Thread nD τ) none) Set.univ (p >>= k) K)
  rw [wp_bind]; exact h (fun a => WP c (k a) K)

/-! ## The states -/

/-- The two duties' tokens of point `j`'s copy, before the block it fills is lent. -/
def copyTok0 (c : Dev nD) (j : Fin 16) : sProp 𝕄 :=
  iprop(cinv m κ (sendCell c j) ∗ cinv m κ (recvCell (dest c j.val) (rix c j.val))
    ∗ dutyTok ER (sendCell c j) 0 c ∗ reached ER (sendCell c j) 0 ∗ dutyTok ER (recvCell (dest c j.val) (rix c j.val)) 0 (dest c j.val))

/-- A send slot at any contents. -/
def sbAny (c : Dev nD) (j : Fin 16) : sProp 𝕄 := iprop(∃ f : Buf (Elt F) (sbLoc c), sbLoc c ↦[(sbR j).set]{fullShare} f)

/-- Send slot `j` before the barrier; -/
def Slot0 (c : Dev nD) (j : Fin 16) : sProp 𝕄 := iprop(sbAny (F := F) c j ∗ if j.val < 14 then copyTok0 m κ c j else iprop(emp))
/-- and before point `i`. -/
def Slot (c : Dev nD) (i : ℕ) (j : Fin 16) : sProp 𝕄 :=
  if j.val < i then (if j.val < 14 then iprop(cred (tallyAt (sendCell c j) () N)) else iprop(sbLoc c ↦[(sbR j).set]{fullShare} SB m c))
  else iprop(sbAny (F := F) c j ∗ if j.val < 14 then copyTok m κ c j else iprop(emp))

/-- The receive waits after the first `k`. -/
def RW (c : Dev nD) (k : ℕ) (j : Fin 16) : sProp 𝕄 :=
  if j.val / 2 = c.val then iprop(emp) else if j.val < k then recvGot m κ c j else recvTok m κ c j

/-- What only the last point uses. -/
def Epi (c : Dev nD) : sProp 𝕄 :=
  iprop((∃ f : Buf (Elt F) (oLoc c), oLoc c ↦[(oR c 0).set]{fullShare} f) ∗ (∃ f : Buf (Elt F) (oLoc c), oLoc c ↦[(oR c 1).set]{fullShare} f)
    ∗ semVal ((c : Thread nD τ), SemLoc.dma (locS 0)) 0 ∗ semVal ((c : Thread nD τ), SemLoc.dma (locS 1)) 0
    ∗ (bigSep Finset.univ fun j : Fin 16 => if j.val < 14 then iprop(cinv m κ (sendCell c j) ∗ atPos ER (sendCell c j) 0 ∅ 0) else iprop(emp))
    ∗ bigSep Finset.univ (RW m κ c 0))

/-- Before the first point. -/
def Pre0 (c : Dev nD) : sProp 𝕄 :=
  iprop((xLoc c ↦{fullShare} X m c) ∗ levAts L lv ∗ Owes (F := F) c (Osig c 0) ∗ WIdle m c 0 ∗ WIdle m c 1
    ∗ bigSep (Finset.Ico 0 8) (sigTok m κ c)
    ∗ (cinv m κ (barCell c) ∗ cred (tallyAt (barCell c) () 7) ∗ atPos ER (barCell c) 0 ∅ 0)
    ∗ bigSep Finset.univ (Slot0 m κ c) ∗ Epi m κ c)
/-- Before point `i`, past the barrier. -/
def State (c : Dev nD) (i : ℕ) : sProp 𝕄 :=
  iprop((xLoc c ↦{fullShare} X m c) ∗ levAts L lv ∗ Owes (F := F) c (Orem c i) ∗ WFly m c (half i) i ∗ WIdle m c (half (i + 1))
    ∗ (cinv m κ (barCell c) ∗ atPos ER (barCell c) 1 ∅ 0)
    ∗ bigSep Finset.univ (Slot m κ c i) ∗ Epi m κ c)
/-- A send slot at the end. -/
def SGot (c : Dev nD) (j : Fin 16) : sProp 𝕄 := if j.val < 14 then sendGot m κ c j else iprop(sbLoc c ↦[(sbR j).set]{fullShare} SB m c)
/-- After the last point. -/
def Done (c : Dev nD) : sProp 𝕄 :=
  iprop((xLoc c ↦{fullShare} X m c) ∗ levAts L lv ∗ Owes (F := F) c 0 ∗ WIdle m c 0 ∗ WIdle m c 1
    ∗ (cinv m κ (barCell c) ∗ atPos ER (barCell c) 1 ∅ 0)
    ∗ bigSep Finset.univ (SGot m κ c)
    ∗ (oLoc c ↦[(oR c 0).set]{fullShare} OUT m c) ∗ (oLoc c ↦[(oR c 1).set]{fullShare} OUT m c)
    ∗ semVal ((c : Thread nD τ), SemLoc.dma (locS 0)) 0 ∗ semVal ((c : Thread nD τ), SemLoc.dma (locS 1)) 0
    ∗ bigSep Finset.univ (RW m κ c 16))

/-! ## The blocks the barrier hands over, by the point that fills them -/

/-- Point `j` of device `c` fills block `half j` of device `dest c j`: every pair once. -/
def pairOf (c : Dev nD) (j : Fin 16) : Dev nD × Fin 2 := (dest c j.val, half j.val)
theorem pairOf_bij (c : Dev nD) : Function.Bijective (pairOf c) := by revert c; decide +kernel
def pairEquiv (c : Dev nD) : Fin 16 ≃ Dev nD × Fin 2 := Equiv.ofBijective _ (pairOf_bij c)

/-- Block `h` of `d`'s result among those `c` fills, and that its receive cell is open. -/
def lp (c d : Dev nD) (h : Fin 2) : sProp 𝕄 :=
  iprop((∃ f : Buf (Elt F) (oLoc d), oLoc d ↦[(oR c h).set]{fullShare} f) ∗ reached ER (recvCell d (rix c h.val)) 0)

theorem barPay_lp (c d : Dev nD) : barPay (F := F) c d ⊢ bigSep Finset.univ (lp c d) := by
  rw [bigSep_fin_two]
  show barPay c d ⊢ iprop(lp c d 0 ∗ lp c d 1)
  unfold barPay lend lp
  iintro ⟨⟨H0, H1⟩, R0, R1⟩
  isplitl [H0 R0]
  · isplitl [H0]; · iexact H0
    iexact R0
  · isplitl [H1]; · iexact H1
    iexact R1

theorem dest_eq_iff (c : Dev nD) (j : Fin 16) : dest c j.val = c ↔ ¬ j.val < 14 := by revert c j; decide +kernel
theorem rix_half_eq (c : Dev nD) (i : ℕ) : rix c (half i).val = rix c i := Fin.ext (by
  show 2 * c.val + (i % 2) % 2 = 2 * c.val + i % 2
  omega)

theorem lent (c : Dev nD) : (bigSep (Finset.univ.erase c) fun d => barPay (F := F) c d)
    ⊢ bigSep Finset.univ fun j : Fin 16 => if j.val < 14 then lp (F := F) c (dest c j.val) (half j.val) else iprop(emp) := by
  have h1 : (bigSep (Finset.univ.erase c) fun d => barPay (F := F) c d) ⊢ bigSep (Finset.univ.erase c) fun d => bigSep Finset.univ (lp (F := F) c d) :=
    bigSep_mono fun d _ => barPay_lp c d
  refine h1.trans (Entails.of_eq ?_)
  rw [show (Finset.univ.erase c : Finset (Dev nD)) = Finset.univ.filter (fun d => d ≠ c) by ext d; simp, bigSep_filter]
  show (bigSep Finset.univ fun d : Dev nD => if d ≠ c then bigSep Finset.univ (lp (F := F) c d) else iprop(emp)) = _
  rw [show (bigSep Finset.univ fun d => if d ≠ c then bigSep Finset.univ (lp (F := F) c d) else iprop(emp))
      = bigSep Finset.univ fun d => bigSep Finset.univ fun h => if d ≠ c then lp (F := F) c d h else iprop(emp) from
      bigSep_congr fun d _ => by
        by_cases hd : d ≠ c
        · rw [if_pos hd]; exact bigSep_congr fun h _ => by rw [if_pos hd]
        · rw [if_neg hd, bigSep_congr (fun h _ => if_neg hd)]; exact (bigSep_emp_const _).symm]
  rw [← bigSep_univ_prod (fun x : Dev nD × Fin 2 => if x.1 ≠ c then lp (F := F) c x.1 x.2 else iprop(emp)), bigSep_univ_equiv (pairEquiv c)]
  refine bigSep_congr fun j _ => ?_
  show (if dest c j.val ≠ c then lp (F := F) c (dest c j.val) (half j.val) else iprop(emp)) = _
  by_cases hj : j.val < 14
  · rw [if_pos hj, if_pos (fun h => (dest_eq_iff c j).mp h hj)]
  · rw [if_neg hj, if_neg (fun h => h ((dest_eq_iff c j).mpr hj))]

theorem slots_lent (c : Dev nD) :
    iprop((bigSep Finset.univ (Slot0 m κ c)) ∗ (bigSep (Finset.univ.erase c) fun d => barPay (F := F) c d))
      ⊢ bigSep Finset.univ (Slot m κ c 0) := by
  refine (BI.sep_mono (Entails.refl _) (lent c)).trans ((Entails.of_eq (bigSep_sep' _ _ _).symm).trans ?_)
  refine bigSep_mono fun j _ => ?_
  show iprop(Slot0 m κ c j ∗ if j.val < 14 then lp (F := F) c (dest c j.val) (half j.val) else iprop(emp)) ⊢ Slot m κ c 0 j
  unfold Slot0 Slot
  rw [if_neg (Nat.not_lt_zero _)]
  by_cases hj : j.val < 14
  · rw [if_pos hj, if_pos hj, if_pos hj]
    unfold copyTok0 copyTok lp
    rw [rix_half_eq]
    iintro ⟨⟨Hs, Hi1, Hi2, Ht1, Hr1, Ht2⟩, Hb, Hr2⟩
    isplitl [Hs]; · iexact Hs
    isplitl [Hb]; · iexact Hb
    isplitl [Hi1]; · iexact Hi1
    isplitl [Hi2]; · iexact Hi2
    isplitl [Ht1]; · iexact Ht1
    isplitl [Hr1]; · iexact Hr1
    isplitl [Ht2]; · iexact Ht2
    iexact Hr2
  · rw [if_neg hj, if_neg hj, if_neg hj]
    iintro ⟨H, -⟩
    iexact H

end Cert.KernelProof

end
-- ==== Proof.KernelBody.lean ====
/-
  The body at one grid point, part by part: each stretch from what the device holds before it to what it holds after.
-/
module

public import proofs.«01_k».proof.Proof.KernelState
public import Idealize.SL.BI.BigOpNat

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (κ : GSem nD τ sig → ℕ)

/-! ## The signals -/

/-- Signals still to be made, from device number `n` on. -/
def Sigs (c : Dev nD) (n : ℕ) : sProp 𝕄 := iprop((bigSep (Finset.Ico n 8) (sigTok m κ c)) ∗ Owes (F := F) c (Osig c n))

/-- One printed signal: made if its device is another. -/
theorem signal_if (c : Dev nD) (n : ℕ) (hn : n < 8) {p : Prop} [Decidable p] (hp : p ↔ dv n ≠ c) {dst : p → Dev nD} (hd : ∀ h, dst h = dv n)
    {α : Type} {K : α → sProp 𝕄} {k : Prog (TpuEff nD τ sig (Elt F) Λ₀ .tc) α} :
    Sigs m κ c n ⊢ iprop((Sigs m κ c (n + 1) -∗ WP c k K)
      -∗ WP c (if h : p then (.op (.semSignal (Dev.tc (dst h)) barS (1#32).toInt) fun _ => k) else k) K) := by
  unfold Sigs
  rw [bigSep_Ico_succ_bot hn]
  iintro ⟨⟨Ht, Hts⟩, HO⟩ Hk
  by_cases h : p
  · rw [dif_pos h]
    iapply (signal_step m κ c n hn (hp.mp h) (hd h)) $$ [Ht HO]
    · isplitl [Ht]; · iexact Ht
      iexact HO
    iintro HO
    iapply Hk
    isplitl [Hts]; · iexact Hts
    iexact HO
  · rw [dif_neg h]
    have hc : dv n = c := by by_contra hc; exact h (hp.mpr hc)
    ihave HO := (signal_skip c n hn hc) $$ HO
    iapply Hk
    isplitl [Hts]; · iexact Hts
    iexact HO

theorem wp_end (c : Dev nD) {α : Type} {a : α} {K : α → sProp 𝕄} : K a ⊢ WP c (.ret a) K := by
  show K a ⊢ wp frame (wpE (defs₀ (F := F)) 𝒱₀ (c : Thread nD τ) none) Set.univ (.ret a) K
  rw [wp_ret]
  iintro H
  imodintro
  iexact H

theorem cond2_iff : ∀ c : Dev nD, k0_cond2 c = 1#1 ↔ dv 0 ≠ c := by decide +kernel
theorem cond3_iff : ∀ c : Dev nD, k0_cond3 c = 1#1 ↔ dv 1 ≠ c := by decide +kernel
theorem cond4_iff : ∀ c : Dev nD, k0_cond4 c = 1#1 ↔ dv 2 ≠ c := by decide +kernel
theorem cond5_iff : ∀ c : Dev nD, k0_cond5 c = 1#1 ↔ dv 3 ≠ c := by decide +kernel
theorem cond6_iff : ∀ c : Dev nD, k0_cond6 c = 1#1 ↔ dv 4 ≠ c := by decide +kernel
theorem cond7_iff : ∀ c : Dev nD, k0_cond7 c = 1#1 ↔ dv 5 ≠ c := by decide +kernel
theorem cond8_iff : ∀ c : Dev nD, k0_cond8 c = 1#1 ↔ dv 6 ≠ c := by decide +kernel
theorem cond9_iff : ∀ c : Dev nD, k0_cond9 c = 1#1 ↔ dv 7 ≠ c := by decide +kernel

/-- The whole memrefs the body is called at. -/
theorem part1_wp (c : Dev nD) (i : grid0.Coords) (hi : (i 0).val = 0) {h1 h2 h3 h4 h5} (a0 v2 : BitVec 32) (hc1 : k0_cond1 i = 1#1)
    {K : PUnit → sProp 𝕄} :
    iprop(WIdle m c 0 ∗ Sigs m κ c 0)
      ⊢ iprop((iprop(WFly m c 0 0 ∗ Sigs m κ c 5) -∗ K ⟨⟩)
        -∗ WP c (k0_part1 i xM h1 wM h2 oM h3 stM h4 sbM h5 cc0_scratch2 cc0_scratch3 cc0_scratch4 cc0_scratch5 a0 c v2
            (SemArray.scalar (sig.barrier 0 rfl)) hc1) K) := by
  rw [k0_part1_eq_skeleton]; unfold k0_part1_skel
  simp -zetaHave only [semSignalWord, semWaitWord, Prog.lift, Prog.bind_op, Prog.bind_ret, Prog.pure_eq_ret]
  iintro ⟨Hw, Hs⟩ Hk
  iapply (fetch_step m c 0 0 (by rw [k0_off1_eq, hi]; rfl) rfl (w_sem _ _ 0 rfl)) $$ Hw
  iintro Hw
  iapply (signal_if m κ c 0 (by decide) (cond2_iff c) (fun h => rfl)) $$ Hs; iintro Hs
  iapply (signal_if m κ c 1 (by decide) (cond3_iff c) (fun h => rfl)) $$ Hs; iintro Hs
  iapply (signal_if m κ c 2 (by decide) (cond4_iff c) (fun h => rfl)) $$ Hs; iintro Hs
  iapply (signal_if m κ c 3 (by decide) (cond5_iff c) (fun h => rfl)) $$ Hs; iintro Hs
  iapply (signal_if m κ c 4 (by decide) (cond6_iff c) (fun h => rfl)) $$ Hs; iintro Hs
  iapply (wp_end c)
  iapply Hk
  isplitl [Hw]; · iexact Hw
  iexact Hs

/-! ## The first half: barrier, fetch of the next columns, wait for this point's, their product -/

/-- The slot of the next point's columns. -/
def Wnext (c : Dev nD) (i : ℕ) : sProp 𝕄 := if i < 15 then WFly m c (half (i + 1)) (i + 1) else WIdle m c (half (i + 1))
/-- Past the barrier, both fetches issued. -/
def Mid0 (c : Dev nD) (i : ℕ) : sProp 𝕄 :=
  iprop((xLoc c ↦{fullShare} X m c) ∗ levAts L lv ∗ Owes (F := F) c (Orem c i) ∗ WFly m c (half i) i ∗ Wnext m c i
    ∗ (cinv m κ (barCell c) ∗ atPos ER (barCell c) 1 ∅ 0)
    ∗ bigSep Finset.univ (Slot m κ c i) ∗ Epi m κ c)
/-- This point's columns landed. -/
def Mid (c : Dev nD) (i : ℕ) : sProp 𝕄 :=
  iprop((xLoc c ↦{fullShare} X m c) ∗ levAts L lv ∗ Owes (F := F) c (Orem c i) ∗ WLand m c (half i) i ∗ Wnext m c i
    ∗ (cinv m κ (barCell c) ∗ atPos ER (barCell c) 1 ∅ 0)
    ∗ bigSep Finset.univ (Slot m κ c i) ∗ Epi m κ c)

/-- Before point `i`. -/
def Before (c : Dev nD) (i : ℕ) : sProp 𝕄 := if i = 0 then Pre0 m κ c else State m κ c i

theorem half_val (i : ℕ) : (half i).val = i % 2 := rfl

theorem WLand_open (c : Dev nD) (s : Fin 2) (i : ℕ) : WLand m c s i
    ⊢ iprop((stLoc c ↦[(stR s).set]{fullShare} WS m c i) ∗ semVal ((c : Thread nD τ), SemLoc.dma (wS s)) 0 ∗ wLoc c ↦{hs s} W m c) := Entails.refl _

theorem WLand_mk (c : Dev nD) (s : Fin 2) (i : ℕ) :
    iprop((stLoc c ↦[(stR s).set]{fullShare} WS m c i) ∗ semVal ((c : Thread nD τ), SemLoc.dma (wS s)) 0 ∗ wLoc c ↦{hs s} W m c)
      ⊢ WLand m c s i := Entails.refl _

theorem Sigs_mk (c : Dev nD) (n : ℕ) : iprop(bigSep (Finset.Ico n 8) (sigTok m κ c) ∗ Owes c (Osig c n)) ⊢ Sigs m κ c n := Entails.refl _
theorem Sigs_done (c : Dev nD) : Sigs m κ c 8 ⊢ Owes c (Orem c 0) := by
  unfold Sigs
  rw [Osig_done]
  iintro ⟨-, H⟩
  iexact H

theorem Before_zero (c : Dev nD) {i : ℕ} (h : i = 0) : Before m κ c i ⊢ iprop((xLoc c ↦{fullShare} X m c) ∗ levAts L lv ∗ Owes (F := F) c (Osig c 0) ∗ WIdle m c 0 ∗ WIdle m c 1
    ∗ bigSep (Finset.Ico 0 8) (sigTok m κ c)
    ∗ (cinv m κ (barCell c) ∗ cred (tallyAt (barCell c) () 7) ∗ atPos ER (barCell c) 0 ∅ 0)
    ∗ bigSep Finset.univ (Slot0 m κ c) ∗ Epi m κ c) := by
  unfold Before; rw [if_pos h]; exact Entails.refl _
theorem Before_pos (c : Dev nD) {i : ℕ} (h : i ≠ 0) : Before m κ c i ⊢ State m κ c i := by
  unfold Before; rw [if_neg h]

theorem State_cast (c : Dev nD) {i j : ℕ} (h : i = j) : State m κ c i ⊢ State m κ c j := h ▸ Entails.refl _

/-- The weights' slot is the one the load names. -/
theorem stR_load (off : Fin 3 → ℕ) (inb) (s : Fin 2) (h : off = stOff s) :
    Rect.unit (s := S2x8192x256) off S1x8192x256.size inb = stR s := by subst h; rfl

theorem stM_setOn (M : Finset S2x8192x256.Idx) : stM.view.setOn M ⊆ M := fun x hx => by
  obtain ⟨y, hy, rfl⟩ := Finset.mem_map.mp hx
  exact hy

set_option maxHeartbeats 1600000 in
theorem part8_wp (c : Dev nD) (i : grid0.Coords) {h1 h2 h3 h4 h5} (K : _ → sProp 𝕄) :
    Before m κ c (i 0).val
      ⊢ iprop((Mid m κ c (i 0).val -∗ K ⟨BitVec.ofNat 32 (i 0).val, c, Scalar.remsi (Scalar.divsi (Dev.word c) 1#32) 8#32, k0_pay2 (X m c) (wv m c (i 0).val)⟩)
        -∗ WP c (k0_part8 i xM h1 wM h2 oM h3 stM h4 sbM h5 cc0_scratch2 cc0_scratch3 cc0_scratch4 cc0_scratch5) K) := by
  rw [k0_part8_eq_skeleton]; unfold k0_part8_skel WP
  simp -zetaHave only [semSignalWord, semWaitWord, Prog.lift, Prog.bind_op, Prog.bind_ret, Prog.pure_eq_ret, wp_deviceId]
  extract_lets a b d e
  subst a b d e
  rw [wp_deviceId, show (c : Thread nD τ).1 = c from rfl]
  extract_lets p q r jp jpB jpW
  subst p q r

  iintro HB HK
  -- the wait for this point's columns and their product
  ihave HK : iprop(Mid0 m κ c (i 0).val -∗ WP c (jp ⟨⟩) K) $$ [HK]
  · unfold Mid0
    iintro ⟨Hx, #Hl, HO, Hw, Hn, Hb, Hsl, He⟩
    dsimp only [jp]
    iapply (fetch_wait m c (half (i 0).val) (i 0).val (O := Orem c (i 0).val) (by rfl) (w_sem _ _ _ (by rw [k0_off5_eq]; rfl))) $$ [Hw HO]
    · isplitl [Hw]; · iexact Hw
      isplitl [HO]; · iexact HO
      iapply (mayWait_rem c (wS (half (i 0).val)) (by show 2 + (i 0).val % 2 < 22; omega) (i 0).val)
      iexact Hl
    iintro ⟨Hw, HO⟩
    iapply (wp_load 𝒱₀ (c : Thread nD τ) none Set.univ (m := xM) (Finset.subset_univ _)) $$ Hx; iintro Hx
    rw [x_load]
    ihave Hw := (WLand_open m c _ _) $$ Hw
    icases Hw with ⟨Hst, Hv, Hw⟩
    iapply (wp_load 𝒱₀ (c : Thread nD τ) none Set.univ (m := stM) (S := (stR (half (i 0).val)).set)
      (by rw [stR_load (k0_off8 i) _ (half (i 0).val) (by rw [k0_off8_eq]; rfl)]; exact stM_setOn _)) $$ Hst
    iintro Hst
    rw [slot_load m c (i 0).val (k0_off8 i) _ (half (i 0).val) (by rw [k0_off8_eq]; rfl)]
    iapply (wp_end c)
    iapply HK
    unfold Mid
    isplitl [Hx]; · iexact Hx
    isplitr; · iexact Hl
    isplitl [HO]; · iexact HO
    isplitl [Hst Hv Hw]
    · iapply (WLand_mk m c)
      isplitl [Hst]; · iexact Hst
      isplitl [Hv]; · iexact Hv
      iexact Hw
    isplitl [Hn]; · iexact Hn
    isplitl [Hb]; · iexact Hb
    isplitl [Hsl]; · iexact Hsl
    iexact He
  clear_value jp
  -- the fetch of the next point's
  ihave Hk : iprop(State m κ c (i 0).val -∗ WP c (jpB ⟨⟩) K) $$ [HK]
  · unfold State
    iintro ⟨Hx, Hl, HO, Hw, Hn, Hb, Hsl, He⟩
    ihave HK : iprop(Wnext m c (i 0).val -∗ WP c (jp ⟨⟩) K) $$ [HK Hx Hl HO Hw Hb Hsl He]
    · iintro Hn
      iapply HK
      unfold Mid0
      isplitl [Hx]; · iexact Hx
      isplitl [Hl]; · iexact Hl
      isplitl [HO]; · iexact HO
      isplitl [Hw]; · iexact Hw
      isplitl [Hn]; · iexact Hn
      isplitl [Hb]; · iexact Hb
      isplitl [Hsl]; · iexact Hsl
      iexact He
    dsimp only [jpB]
    by_cases hi : (i 0).val < 15
    · rw [dif_pos ((cond10_iff i).mpr hi)]
      iapply (fetch_step m c (half ((i 0).val + 1)) ((i 0).val + 1) (by rw [k0_off4_eq]; rfl)
        (by rw [k0_off3_eq]; unfold stOff; rw [half_val]; congr 1; omega)
        (w_sem _ _ _ (by rw [k0_off2_eq, half_val]; congr 1; omega))) $$ Hn
      iintro Hn
      iapply HK
      unfold Wnext
      rw [if_pos hi]
      iexact Hn
    · rw [dif_neg (fun h => hi ((cond10_iff i).mp h))]
      iapply HK
      unfold Wnext
      rw [if_neg hi]
      iexact Hn
  clear_value jpB
  by_cases hi : (i 0).val = 0
  · have hc1 := (cond1_iff i).mpr hi
    rw [dif_pos hc1]
    ihave HB := (Before_zero m κ c hi) $$ HB
    icases HB with ⟨Hx, #Hl, HO, Hw0, Hw1, Hsig, ⟨#Hib, Hcr, Hat⟩, Hsl, He⟩
    iapply (wp_seq c (fun K' => part1_wp m κ c i hi _ _ hc1)) $$ [HO Hw0 Hsig]
    · isplitl [Hw0]; · iexact Hw0
      iapply (Sigs_mk m κ c)
      isplitl [Hsig]; · iexact Hsig
      iexact HO
    iintro ⟨Hw0, Hs⟩
    iapply (signal_if m κ c 5 (by decide) (cond7_iff c) (fun h => rfl)) $$ Hs; iintro Hs
    iapply (signal_if m κ c 6 (by decide) (cond8_iff c) (fun h => rfl)) $$ Hs; iintro Hs
    iapply (signal_if m κ c 7 (by decide) (cond9_iff c) (fun h => rfl)) $$ Hs; iintro Hs
    ihave HO := (Sigs_done m κ c) $$ Hs
    iapply (bar_wait m κ c) $$ [Hcr HO Hat]
    · isplitr; · iexact Hib
      isplitl [Hcr]; · iexact Hcr
      isplitl [HO]; · iexact HO
      isplitr; · iexact Hl
      iexact Hat
    iintro ⟨HO, Hat, Hpay⟩
    iapply Hk
    iapply (State_cast m κ c hi.symm)
    unfold State
    isplitl [Hx]; · iexact Hx
    isplitr; · iexact Hl
    isplitl [HO]; · iexact HO
    isplitl [Hw0]; · iexact Hw0
    isplitl [Hw1]; · iexact Hw1
    isplitl [Hat]
    · isplitr; · iexact Hib
      iexact Hat
    isplitl [Hsl Hpay]
    · iapply (slots_lent m κ c)
      isplitl [Hsl]; · iexact Hsl
      iexact Hpay
    · iexact He
  · rw [dif_neg (fun h => hi ((cond1_iff i).mp h))]
    iapply Hk
    iapply (Before_pos m κ c hi)
    iexact HB

end Cert.KernelProof

end
-- ==== Proof.KernelEpilogue.lean ====
/-
  The last point's epilogue: the two local copies issued, the fourteen receive waits, the fourteen send waits, the waits
  of the local copies; and the whole body at any point.
-/
module

public import proofs.«01_k».proof.Proof.KernelBody

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (κ : GSem nD τ sig → ℕ)

/-! ## The receive waits -/

theorem cond13_iff : ∀ c : Dev nD, k0_cond13 c = 1#1 ↔ 0 / 2 ≠ c.val := by decide +kernel
theorem cond14_iff : ∀ c : Dev nD, k0_cond14 c = 1#1 ↔ 1 / 2 ≠ c.val := by decide +kernel
theorem cond15_iff : ∀ c : Dev nD, k0_cond15 c = 1#1 ↔ 2 / 2 ≠ c.val := by decide +kernel
theorem cond16_iff : ∀ c : Dev nD, k0_cond16 c = 1#1 ↔ 3 / 2 ≠ c.val := by decide +kernel
theorem cond17_iff : ∀ c : Dev nD, k0_cond17 c = 1#1 ↔ 4 / 2 ≠ c.val := by decide +kernel
theorem cond18_iff : ∀ c : Dev nD, k0_cond18 c = 1#1 ↔ 5 / 2 ≠ c.val := by decide +kernel
theorem cond19_iff : ∀ c : Dev nD, k0_cond19 c = 1#1 ↔ 6 / 2 ≠ c.val := by decide +kernel
theorem cond20_iff : ∀ c : Dev nD, k0_cond20 c = 1#1 ↔ 7 / 2 ≠ c.val := by decide +kernel
theorem cond21_iff : ∀ c : Dev nD, k0_cond21 c = 1#1 ↔ 8 / 2 ≠ c.val := by decide +kernel
theorem cond22_iff : ∀ c : Dev nD, k0_cond22 c = 1#1 ↔ 9 / 2 ≠ c.val := by decide +kernel
theorem cond23_iff : ∀ c : Dev nD, k0_cond23 c = 1#1 ↔ 10 / 2 ≠ c.val := by decide +kernel
theorem cond24_iff : ∀ c : Dev nD, k0_cond24 c = 1#1 ↔ 11 / 2 ≠ c.val := by decide +kernel
theorem cond25_iff : ∀ c : Dev nD, k0_cond25 c = 1#1 ↔ 12 / 2 ≠ c.val := by decide +kernel
theorem cond26_iff : ∀ c : Dev nD, k0_cond26 c = 1#1 ↔ 13 / 2 ≠ c.val := by decide +kernel
theorem cond27_iff : ∀ c : Dev nD, k0_cond27 c = 1#1 ↔ 14 / 2 ≠ c.val := by decide +kernel
theorem cond28_iff : ∀ c : Dev nD, k0_cond28 c = 1#1 ↔ 15 / 2 ≠ c.val := by decide +kernel

/-- Past the first `k` receive waits. -/
def RecvAt (c : Dev nD) (k : ℕ) : sProp 𝕄 := iprop(bigSep Finset.univ (RW m κ c k) ∗ Owes c 0)

theorem RW_other (c : Dev nD) (k : Fin 16) (j : Fin 16) (h : j ≠ k) : RW m κ c (k.val + 1) j = RW m κ c k.val j := by
  have hv : j.val ≠ k.val := fun e => h (Fin.ext e)
  unfold RW
  by_cases hj : j.val < k.val
  · rw [if_pos hj, if_pos (show j.val < k.val + 1 by omega)]
  · rw [if_neg hj, if_neg (show ¬ j.val < k.val + 1 by omega)]

/-- One receive wait under its condition. -/
theorem recv_if (c : Dev nD) (n : ℕ) (hn : n < 16) {p : Prop} [Decidable p] (hp : p ↔ n / 2 ≠ c.val) {sem : DmaSem sig} (hsem : sem = recvS ⟨n, hn⟩)
    {src dst : Memref sig .tc .vmem S1024x256 .bf16} (hN : dst.view.dmaCredit = N) {α : Type} {Q : α → sProp 𝕄}
    {kk : Prog (TpuEff nD τ sig (Elt F) Λ₀ .tc) α} {h1 h2} :
    RecvAt m κ c n ⊢ iprop((RecvAt m κ c (n + 1) -∗ WP c kk Q)
      -∗ WP c (if h : p then .op (.waitDma2 sem src dst h1 h2) (fun _ => kk) else kk) Q) := by
  obtain ⟨k, rfl, hk'⟩ : ∃ k : Fin 16, k.val = n ∧ k = ⟨n, hn⟩ := ⟨⟨n, hn⟩, rfl, rfl⟩
  unfold RecvAt
  iintro ⟨HR, HO⟩ Hk
  ihave HR := (bigSep_univ_update (Φ := RW m κ c k.val) (Ψ := RW m κ c (k.val + 1)) k (fun j h => RW_other m κ c k j h)) $$ HR
  icases HR with ⟨H1, HR⟩
  by_cases h : p
  · rw [dif_pos h]
    have hk := hp.mp h
    ihave H1 := (Entails.of_eq (show RW m κ c k.val k = recvTok m κ c k by unfold RW; rw [if_neg hk, if_neg (lt_irrefl _)])) $$ H1
    iapply (recv_step m κ c k hk hsem hN) $$ [H1 HO]
    · isplitl [H1]; · iexact H1
      iexact HO
    iintro ⟨H1, HO⟩
    iapply Hk
    isplitl [H1 HR]
    · iapply HR
      iapply (Entails.of_eq (show recvGot m κ c k = RW m κ c (k.val + 1) k by unfold RW; rw [if_neg hk, if_pos (Nat.lt_succ_self _)])) $$ H1
    · iexact HO
  · rw [dif_neg h]
    have hk : k.val / 2 = c.val := by by_contra hc; exact h (hp.mpr hc)
    iapply Hk
    isplitl [H1 HR]
    · iapply HR
      iapply (Entails.of_eq (show RW m κ c k.val k = RW m κ c (k.val + 1) k by unfold RW; rw [if_pos hk, if_pos hk])) $$ H1
    · iexact HO

/-! ## The send waits -/

def SW (c : Dev nD) (k : ℕ) (j : Fin 16) : sProp 𝕄 :=
  if j.val < 14 then (if j.val < k then sendGot m κ c j else sendTok m κ c j) else iprop(emp)
/-- Past the first `k` send waits. -/
def SentAt (c : Dev nD) (k : ℕ) : sProp 𝕄 := iprop(bigSep Finset.univ (SW m κ c k) ∗ Owes c 0)

theorem SW_other (c : Dev nD) (k : Fin 16) (j : Fin 16) (h : j ≠ k) : SW m κ c (k.val + 1) j = SW m κ c k.val j := by
  have hv : j.val ≠ k.val := fun e => h (Fin.ext e)
  unfold SW
  by_cases hj : j.val < k.val
  · rw [if_pos hj, if_pos (show j.val < k.val + 1 by omega)]
  · rw [if_neg hj, if_neg (show ¬ j.val < k.val + 1 by omega)]

/-- One send wait. -/
theorem sent_at (c : Dev nD) (n : ℕ) (hn : n < 14) {sem : DmaSem sig} (hsem : sem = sendS ⟨n, hn.trans (by decide)⟩)
    {src dst : Memref sig .tc .vmem S1024x256 .bf16} (hN : dst.view.dmaCredit = N) {α : Type} {Q : α → sProp 𝕄}
    {kk : PUnit → Prog (TpuEff nD τ sig (Elt F) Λ₀ .tc) α} {h1 h2} :
    SentAt m κ c n ⊢ iprop((SentAt m κ c (n + 1) -∗ WP c (kk ⟨⟩) Q) -∗ WP c (.op (.waitDma2 sem src dst h1 h2) kk) Q) := by
  obtain ⟨k, rfl, hk'⟩ : ∃ k : Fin 16, k.val = n ∧ k = ⟨n, hn.trans (by decide)⟩ := ⟨⟨n, hn.trans (by decide)⟩, rfl, rfl⟩
  have hk : k.val < 14 := hn
  unfold SentAt
  iintro ⟨HR, HO⟩ Hk
  ihave HR := (bigSep_univ_update (Φ := SW m κ c k.val) (Ψ := SW m κ c (k.val + 1)) k (fun j h => SW_other m κ c k j h)) $$ HR
  icases HR with ⟨H1, HR⟩
  ihave H1 := (Entails.of_eq (show SW m κ c k.val k = sendTok m κ c k by unfold SW; rw [if_pos hk, if_neg (lt_irrefl _)])) $$ H1
  iapply (sent_step m κ c k hk hsem hN) $$ [H1 HO]
  · isplitl [H1]; · iexact H1
    iexact HO
  iintro ⟨H1, HO⟩
  iapply Hk
  isplitl [H1 HR]
  · iapply HR
    iapply (Entails.of_eq (show sendGot m κ c k = SW m κ c (k.val + 1) k by unfold SW; rw [if_pos hk, if_pos (Nat.lt_succ_self _)])) $$ H1
  · iexact HO

/-! ## The slots, those the copies leave from and the two the device keeps -/

theorem keep_set : (Finset.univ.filter fun j : Fin 16 => ¬ j.val < 14) = {own 0, own 1} := by decide

theorem slots_split (Φ : Fin 16 → sProp 𝕄) :
    bigSep Finset.univ Φ = iprop((bigSep Finset.univ fun j => if j.val < 14 then Φ j else iprop(emp)) ∗ Φ (own 0) ∗ Φ (own 1)) := by
  rw [bigSep_filter_split Finset.univ (fun j : Fin 16 => j.val < 14), bigSep_filter, keep_set, bigSep_insert (by decide), bigSep_singleton]
  rfl

theorem swap3 (A B C : sProp 𝕄) : iprop(A ∗ B ∗ C) ⊢ iprop(B ∗ A ∗ C) := by
  iintro ⟨HA, HB, HC⟩
  isplitl [HB]; · iexact HB
  isplitl [HA]; · iexact HA
  iexact HC
theorem emp2 : (iprop(emp ∗ emp) : sProp 𝕄) ⊢ iprop(emp) := by
  iintro ⟨H, -⟩; iexact H

/-- Every slot's block sent: the copies' credits join the send cells' positions, and the device's two slots come out. -/
theorem slots_sent (c : Dev nD) :
    iprop(bigSep Finset.univ (Slot m κ c 16)
      ∗ bigSep Finset.univ fun j : Fin 16 => if j.val < 14 then iprop(cinv m κ (sendCell c j) ∗ atPos ER (sendCell c j) 0 ∅ 0) else iprop(emp))
      ⊢ iprop(bigSep Finset.univ (SW m κ c 0) ∗ (sbLoc c ↦[(sbR (own 0)).set]{fullShare} SB m c) ∗ (sbLoc c ↦[(sbR (own 1)).set]{fullShare} SB m c)) := by
  rw [slots_split (Slot m κ c 16)]
  have e0 : ∀ cc : Fin 2, Slot m κ c 16 (own cc) = (sbLoc c ↦[(sbR (own cc)).set]{fullShare} SB m c) := fun cc => by
    unfold Slot
    rw [if_pos (own cc).isLt, if_neg (by show ¬ 14 + cc.val < 14; omega)]
  rw [e0 0, e0 1]
  have h1 : iprop((bigSep Finset.univ fun j : Fin 16 => if j.val < 14 then Slot m κ c 16 j else iprop(emp))
      ∗ bigSep Finset.univ fun j : Fin 16 => if j.val < 14 then iprop(cinv m κ (sendCell c j) ∗ atPos ER (sendCell c j) 0 ∅ 0) else iprop(emp))
      ⊢ bigSep Finset.univ (SW m κ c 0) := by
    refine (Entails.of_eq (bigSep_sep' _ _ _).symm).trans (bigSep_mono fun j _ => ?_)
    unfold SW Slot
    by_cases hj : j.val < 14
    · simp only [if_pos hj, if_pos j.isLt, if_neg (Nat.not_lt_zero j.val)]
      unfold sendTok
      exact swap3 _ _ _
    · simp only [if_neg hj]
      exact emp2
  iintro ⟨⟨H, H0, H1⟩, HA⟩
  isplitl [H HA]
  · iapply h1
    isplitl [H]; · iexact H
    iexact HA
  isplitl [H0]; · iexact H0
  iexact H1

/-- The send slots all back. -/
theorem slots_back (c : Dev nD) :
    iprop(bigSep Finset.univ (SW m κ c 14) ∗ (sbLoc c ↦[(sbR (own 0)).set]{fullShare} SB m c) ∗ (sbLoc c ↦[(sbR (own 1)).set]{fullShare} SB m c))
      ⊢ bigSep Finset.univ (SGot m κ c) := by
  rw [slots_split (SGot m κ c)]
  have e0 : ∀ cc : Fin 2, SGot m κ c (own cc) = (sbLoc c ↦[(sbR (own cc)).set]{fullShare} SB m c) := fun cc => by
    unfold SGot
    rw [if_neg (by show ¬ 14 + cc.val < 14; omega)]
  rw [e0 0, e0 1]
  refine BI.sep_mono (bigSep_mono fun j _ => ?_) (Entails.refl _)
  unfold SW SGot
  by_cases hj : j.val < 14
  · simp only [if_pos hj]
    exact Entails.refl _
  · simp only [if_neg hj]
    exact Entails.refl _

/-! ## The epilogue's stretches -/

/-- A stretch that returns a value, with what follows it. -/
theorem wp_seqv (c : Dev nD) {P Q : sProp 𝕄} {α β : Type} {v : β} {p : Prog (TpuEff nD τ sig (Elt F) Λ₀ .tc) β}
    {k : β → Prog (TpuEff nD τ sig (Elt F) Λ₀ .tc) α} {K : α → sProp 𝕄}
    (h : ∀ K' : β → sProp 𝕄, P ⊢ iprop((Q -∗ K' v) -∗ WP c p K')) :
    P ⊢ iprop((Q -∗ WP c (k v) K) -∗ WP c (p >>= k) K) := by
  show P ⊢ iprop((Q -∗ WP c (k v) K) -∗ wp frame (wpE (defs₀ (F := F)) 𝒱₀ (c : Thread nD τ) none) Set.univ (p >>= k) K)
  rw [wp_bind]; exact h (fun a => WP c (k a) K)

theorem part2_wp (c : Dev nD) (i : grid0.Coords) {h1 h2 h3 h4 h5} (v2 : BitVec 32) (hc : k0_cond12 i = 1#1) (K : _ → sProp 𝕄) :
    iprop(locTok m c 0 ∗ locTok m c 1 ∗ RecvAt m κ c 0)
      ⊢ iprop((iprop(locFly m c 0 ∗ locFly m c 1 ∗ RecvAt m κ c 3) -∗ K ⟨Scalar.extui (Scalar.cmpi .ne v2 1#32), 0#32⟩)
        -∗ WP c (k0_part2 i xM h1 wM h2 oM h3 stM h4 sbM h5 cc0_scratch2 cc0_scratch3 cc0_scratch4 cc0_scratch5 c v2 hc) K) := by
  rw [k0_part2_eq_skeleton]; unfold k0_part2_skel
  simp -zetaHave only [Prog.lift, Prog.bind_op, Prog.bind_ret, Prog.pure_eq_ret]
  iintro ⟨H0, H1, HR⟩ Hk
  iapply (loc_step m c 0 (by rfl) (by rw [k0_off14_eq]; rfl) (loc_sem _ _ 0 rfl)) $$ H0; iintro H0
  iapply (loc_step m c 1 (by rfl) (by rw [k0_off15_eq]; rfl) (loc_sem _ _ 1 rfl)) $$ H1; iintro H1
  iapply (recv_if m κ c 0 (by decide) (cond13_iff c) (recv_sem _ _ _ rfl) (by rfl)) $$ HR; iintro HR
  iapply (recv_if m κ c 1 (by decide) (cond14_iff c) (recv_sem _ _ _ rfl) (by rfl)) $$ HR; iintro HR
  iapply (recv_if m κ c 2 (by decide) (cond15_iff c) (recv_sem _ _ _ rfl) (by rfl)) $$ HR; iintro HR
  iapply (wp_end c)
  iapply Hk
  isplitl [H0]; · iexact H0
  isplitl [H1]; · iexact H1
  iexact HR

theorem part3_wp (c : Dev nD) (i : grid0.Coords) {h1 h2 h3 h4 h5} (v2 v71 b : BitVec 32) (K : _ → sProp 𝕄) :
    RecvAt m κ c 3 ⊢ iprop((RecvAt m κ c 10 -∗ K (Scalar.extui (Scalar.cmpi .ne v2 5#32)))
        -∗ WP c (k0_part3 i xM h1 wM h2 oM h3 stM h4 sbM h5 cc0_scratch2 cc0_scratch3 cc0_scratch4 cc0_scratch5 c v2 v71 b) K) := by
  rw [k0_part3_eq_skeleton]; unfold k0_part3_skel
  simp -zetaHave only [Prog.lift, Prog.bind_op, Prog.bind_ret, Prog.pure_eq_ret]
  iintro HR Hk
  iapply (recv_if m κ c 3 (by decide) (cond16_iff c) (recv_sem _ _ _ rfl) (by rfl)) $$ HR; iintro HR
  iapply (recv_if m κ c 4 (by decide) (cond17_iff c) (recv_sem _ _ _ rfl) (by rfl)) $$ HR; iintro HR
  iapply (recv_if m κ c 5 (by decide) (cond18_iff c) (recv_sem _ _ _ rfl) (by rfl)) $$ HR; iintro HR
  iapply (recv_if m κ c 6 (by decide) (cond19_iff c) (recv_sem _ _ _ rfl) (by rfl)) $$ HR; iintro HR
  iapply (recv_if m κ c 7 (by decide) (cond20_iff c) (recv_sem _ _ _ rfl) (by rfl)) $$ HR; iintro HR
  iapply (recv_if m κ c 8 (by decide) (cond21_iff c) (recv_sem _ _ _ rfl) (by rfl)) $$ HR; iintro HR
  iapply (recv_if m κ c 9 (by decide) (cond22_iff c) (recv_sem _ _ _ rfl) (by rfl)) $$ HR; iintro HR
  iapply (wp_end c)
  iapply Hk
  iexact HR

theorem part4_wp (c : Dev nD) (i : grid0.Coords) {h1 h2 h3 h4 h5} (v2 v92 : BitVec 32) (K : _ → sProp 𝕄) :
    RecvAt m κ c 10 ⊢ iprop((RecvAt m κ c 16 -∗ K ⟨⟩)
        -∗ WP c (k0_part4 i xM h1 wM h2 oM h3 stM h4 sbM h5 cc0_scratch2 cc0_scratch3 cc0_scratch4 cc0_scratch5 c v2 v92) K) := by
  rw [k0_part4_eq_skeleton]; unfold k0_part4_skel
  simp -zetaHave only [Prog.lift, Prog.bind_op, Prog.bind_ret, Prog.pure_eq_ret]
  iintro HR Hk
  iapply (recv_if m κ c 10 (by decide) (cond23_iff c) (recv_sem _ _ _ rfl) (by rfl)) $$ HR; iintro HR
  iapply (recv_if m κ c 11 (by decide) (cond24_iff c) (recv_sem _ _ _ rfl) (by rfl)) $$ HR; iintro HR
  iapply (recv_if m κ c 12 (by decide) (cond25_iff c) (recv_sem _ _ _ rfl) (by rfl)) $$ HR; iintro HR
  iapply (recv_if m κ c 13 (by decide) (cond26_iff c) (recv_sem _ _ _ rfl) (by rfl)) $$ HR; iintro HR
  iapply (recv_if m κ c 14 (by decide) (cond27_iff c) (recv_sem _ _ _ rfl) (by rfl)) $$ HR; iintro HR
  iapply (recv_if m κ c 15 (by decide) (cond28_iff c) (recv_sem _ _ _ rfl) (by rfl)) $$ HR; iintro HR
  iapply (wp_end c)
  iapply Hk
  iexact HR

theorem part5_wp (c : Dev nD) (i : grid0.Coords) {h1 h2 h3 h4 h5} (K : _ → sProp 𝕄) :
    SentAt m κ c 0 ⊢ iprop((SentAt m κ c 4 -∗ K ⟨⟩)
        -∗ WP c (k0_part5 i xM h1 wM h2 oM h3 stM h4 sbM h5 cc0_scratch2 cc0_scratch3 cc0_scratch4 cc0_scratch5) K) := by
  rw [k0_part5_eq_skeleton]; unfold k0_part5_skel
  simp -zetaHave only [Prog.lift, Prog.bind_op, Prog.bind_ret, Prog.pure_eq_ret]
  iintro HR Hk
  iapply (sent_at m κ c 0 (by decide) (send_sem _ _ _ rfl) (by rfl)) $$ HR; iintro HR
  iapply (sent_at m κ c 1 (by decide) (send_sem _ _ _ rfl) (by rfl)) $$ HR; iintro HR
  iapply (sent_at m κ c 2 (by decide) (send_sem _ _ _ rfl) (by rfl)) $$ HR; iintro HR
  iapply (sent_at m κ c 3 (by decide) (send_sem _ _ _ rfl) (by rfl)) $$ HR; iintro HR
  iapply (wp_end c)
  iapply Hk
  iexact HR

theorem part6_wp (c : Dev nD) (i : grid0.Coords) {h1 h2 h3 h4 h5} (K : _ → sProp 𝕄) :
    SentAt m κ c 4 ⊢ iprop((SentAt m κ c 8 -∗ K ⟨⟩)
        -∗ WP c (k0_part6 i xM h1 wM h2 oM h3 stM h4 sbM h5 cc0_scratch2 cc0_scratch3 cc0_scratch4 cc0_scratch5) K) := by
  rw [k0_part6_eq_skeleton]; unfold k0_part6_skel
  simp -zetaHave only [Prog.lift, Prog.bind_op, Prog.bind_ret, Prog.pure_eq_ret]
  iintro HR Hk
  iapply (sent_at m κ c 4 (by decide) (send_sem _ _ _ rfl) (by rfl)) $$ HR; iintro HR
  iapply (sent_at m κ c 5 (by decide) (send_sem _ _ _ rfl) (by rfl)) $$ HR; iintro HR
  iapply (sent_at m κ c 6 (by decide) (send_sem _ _ _ rfl) (by rfl)) $$ HR; iintro HR
  iapply (sent_at m κ c 7 (by decide) (send_sem _ _ _ rfl) (by rfl)) $$ HR; iintro HR
  iapply (wp_end c)
  iapply Hk
  iexact HR

theorem part7_wp (c : Dev nD) (i : grid0.Coords) {h1 h2 h3 h4 h5} (K : _ → sProp 𝕄) :
    SentAt m κ c 8 ⊢ iprop((SentAt m κ c 12 -∗ K ⟨⟩)
        -∗ WP c (k0_part7 i xM h1 wM h2 oM h3 stM h4 sbM h5 cc0_scratch2 cc0_scratch3 cc0_scratch4 cc0_scratch5) K) := by
  rw [k0_part7_eq_skeleton]; unfold k0_part7_skel
  simp -zetaHave only [Prog.lift, Prog.bind_op, Prog.bind_ret, Prog.pure_eq_ret]
  iintro HR Hk
  iapply (sent_at m κ c 8 (by decide) (send_sem _ _ _ rfl) (by rfl)) $$ HR; iintro HR
  iapply (sent_at m κ c 9 (by decide) (send_sem _ _ _ rfl) (by rfl)) $$ HR; iintro HR
  iapply (sent_at m κ c 10 (by decide) (send_sem _ _ _ rfl) (by rfl)) $$ HR; iintro HR
  iapply (sent_at m κ c 11 (by decide) (send_sem _ _ _ rfl) (by rfl)) $$ HR; iintro HR
  iapply (wp_end c)
  iapply Hk
  iexact HR

/-! ## The last point's epilogue -/

/-- After the last point's block is made. -/
def Last (c : Dev nD) : sProp 𝕄 := iprop(Owes (F := F) c 0 ∗ bigSep Finset.univ (Slot m κ c 16) ∗ Epi m κ c)
/-- The epilogue done. -/
def LastDone (c : Dev nD) : sProp 𝕄 :=
  iprop(Owes (F := F) c 0 ∗ bigSep Finset.univ (SGot m κ c)
    ∗ (oLoc c ↦[(oR c 0).set]{fullShare} OUT m c) ∗ (oLoc c ↦[(oR c 1).set]{fullShare} OUT m c)
    ∗ semVal ((c : Thread nD τ), SemLoc.dma (locS 0)) 0 ∗ semVal ((c : Thread nD τ), SemLoc.dma (locS 1)) 0
    ∗ bigSep Finset.univ (RW m κ c 16))

theorem last_open (c : Dev nD) : Last m κ c
    ⊢ iprop(locTok m c 0 ∗ locTok m c 1 ∗ RecvAt m κ c 0 ∗ bigSep Finset.univ (SW m κ c 0)) := by
  unfold Last Epi
  iintro ⟨HO, Hsl, Ho0, Ho1, Hv0, Hv1, Ha, HR⟩
  ihave H := (slots_sent m κ c) $$ [Hsl Ha]
  · isplitl [Hsl]; · iexact Hsl
    iexact Ha
  icases H with ⟨HS, Hs0, Hs1⟩
  unfold locTok RecvAt
  isplitl [Ho0 Hs0 Hv0]
  · isplitl [Ho0]; · iexact Ho0
    isplitl [Hs0]; · iexact Hs0
    iexact Hv0
  isplitl [Ho1 Hs1 Hv1]
  · isplitl [Ho1]; · iexact Ho1
    isplitl [Hs1]; · iexact Hs1
    iexact Hv1
  isplitl [HR HO]
  · isplitl [HR]; · iexact HR
    iexact HO
  iexact HS

theorem last_close (c : Dev nD) :
    iprop(locGot m c 0 ∗ locGot m c 1 ∗ Owes (F := F) c 0 ∗ bigSep Finset.univ (RW m κ c 16) ∗ bigSep Finset.univ (SW m κ c 14))
      ⊢ LastDone m κ c := by
  unfold LastDone locGot
  iintro ⟨⟨Ho0, Hs0, Hv0⟩, ⟨Ho1, Hs1, Hv1⟩, HO, HR, HS⟩
  isplitl [HO]; · iexact HO
  isplitl [HS Hs0 Hs1]
  · iapply (slots_back m κ c)
    isplitl [HS]; · iexact HS
    isplitl [Hs0]; · iexact Hs0
    iexact Hs1
  isplitl [Ho0]; · iexact Ho0
  isplitl [Ho1]; · iexact Ho1
  isplitl [Hv0]; · iexact Hv0
  isplitl [Hv1]; · iexact Hv1
  iexact HR

/-! ## The whole body -/

/-- After point `i`'s block is made and, if it is another device's, sent. -/
def Post (c : Dev nD) (i : ℕ) : sProp 𝕄 :=
  iprop((xLoc c ↦{fullShare} X m c) ∗ levAts L lv ∗ Owes (F := F) c (Orem c (i + 1)) ∗ WIdle m c (half i) ∗ Wnext m c i
    ∗ (cinv m κ (barCell c) ∗ atPos ER (barCell c) 1 ∅ 0)
    ∗ bigSep Finset.univ (Slot m κ c (i + 1)) ∗ Epi m κ c)
/-- After point `i`. -/
def After (c : Dev nD) (i : ℕ) : sProp 𝕄 := if i < 15 then State m κ c (i + 1) else Done m κ c

theorem post_after (c : Dev nD) (i : ℕ) (h : i < 15) : Post m κ c i ⊢ After m κ c i := by
  unfold Post After Wnext State
  rw [if_pos h, if_pos h, show half (i + 1 + 1) = half i from Fin.ext (by rw [half_val, half_val]; omega)]
  iintro ⟨Hx, Hl, HO, Hw, Hn, Hb, Hs, He⟩
  isplitl [Hx]; · iexact Hx
  isplitl [Hl]; · iexact Hl
  isplitl [HO]; · iexact HO
  isplitl [Hn]; · iexact Hn
  isplitl [Hw]; · iexact Hw
  isplitl [Hb]; · iexact Hb
  isplitl [Hs]; · iexact Hs
  iexact He

/-- What the epilogue leaves untouched. -/
def LastRest (c : Dev nD) : sProp 𝕄 :=
  iprop((xLoc c ↦{fullShare} X m c) ∗ levAts L lv ∗ WIdle m c 0 ∗ WIdle m c 1 ∗ (cinv m κ (barCell c) ∗ atPos ER (barCell c) 1 ∅ 0))

theorem post_last (c : Dev nD) {i : ℕ} (h : i = 15) : Post m κ c i ⊢ iprop(Last m κ c ∗ LastRest m κ c) := by
  subst h
  unfold Post Last LastRest Wnext
  rw [if_neg (lt_irrefl _), Orem_done c 16 (by decide), show half 15 = 1 from rfl, show half (15 + 1) = 0 from rfl]
  iintro ⟨Hx, Hl, HO, Hw, Hn, Hb, Hs, He⟩
  isplitl [HO Hs He]
  · isplitl [HO]; · iexact HO
    isplitl [Hs]; · iexact Hs
    iexact He
  isplitl [Hx]; · iexact Hx
  isplitl [Hl]; · iexact Hl
  isplitl [Hn]; · iexact Hn
  isplitl [Hw]; · iexact Hw
  iexact Hb

theorem last_after (c : Dev nD) {i : ℕ} (h : ¬ i < 15) : iprop(LastDone m κ c ∗ LastRest m κ c) ⊢ After m κ c i := by
  unfold After LastDone LastRest Done
  rw [if_neg h]
  iintro ⟨⟨HO, HS, Ho0, Ho1, Hv0, Hv1, HR⟩, Hx, Hl, Hw0, Hw1, Hb⟩
  isplitl [Hx]; · iexact Hx
  isplitl [Hl]; · iexact Hl
  isplitl [HO]; · iexact HO
  isplitl [Hw0]; · iexact Hw0
  isplitl [Hw1]; · iexact Hw1
  isplitl [Hb]; · iexact Hb
  isplitl [HS]; · iexact HS
  isplitl [Ho0]; · iexact Ho0
  isplitl [Ho1]; · iexact Ho1
  isplitl [Hv0]; · iexact Hv0
  isplitl [Hv1]; · iexact Hv1
  iexact HR

theorem Mid_open (c : Dev nD) (i : ℕ) : Mid m κ c i
    ⊢ iprop((xLoc c ↦{fullShare} X m c) ∗ levAts L lv ∗ Owes (F := F) c (Orem c i) ∗ WIdle m c (half i) ∗ Wnext m c i
    ∗ (cinv m κ (barCell c) ∗ atPos ER (barCell c) 1 ∅ 0) ∗ bigSep Finset.univ (Slot m κ c i) ∗ Epi m κ c) := by
  unfold Mid
  iintro ⟨Hx, Hl, HO, Hw, Hn, Hb, Hs, He⟩
  isplitl [Hx]; · iexact Hx
  isplitl [Hl]; · iexact Hl
  isplitl [HO]; · iexact HO
  isplitl [Hw]; · iapply (WLand_idle m c (half i) i); iexact Hw
  isplitl [Hn]; · iexact Hn
  isplitl [Hb]; · iexact Hb
  isplitl [Hs]; · iexact Hs
  iexact He

theorem Slot_other (c : Dev nD) (k : Fin 16) (j : Fin 16) (h : j ≠ k) : Slot m κ c (k.val + 1) j = Slot m κ c k.val j := by
  have hv : j.val ≠ k.val := fun e => h (Fin.ext e)
  unfold Slot
  by_cases hj : j.val < k.val
  · rw [if_pos hj, if_pos (show j.val < k.val + 1 by omega)]
  · rw [if_neg hj, if_neg (show ¬ j.val < k.val + 1 by omega)]

/-- The slot of the point's block taken out, at any contents, to be given back with the block sent. -/
theorem slot_take (c : Dev nD) (k : Fin 16) : bigSep Finset.univ (Slot m κ c k.val)
    ⊢ iprop((sbAny (F := F) c k ∗ if k.val < 14 then copyTok m κ c k else iprop(emp))
      ∗ ((if k.val < 14 then iprop(cred (tallyAt (sendCell c k) () N)) else iprop(sbLoc c ↦[(sbR k).set]{fullShare} SB m c))
        -∗ bigSep Finset.univ (Slot m κ c (k.val + 1)))) := by
  refine (bigSep_univ_update (Φ := Slot m κ c k.val) (Ψ := Slot m κ c (k.val + 1)) k (fun j h => Slot_other m κ c k j h)).trans ?_
  rw [show Slot m κ c k.val k = iprop(sbAny (F := F) c k ∗ if k.val < 14 then copyTok m κ c k else iprop(emp)) by
      unfold Slot; rw [if_neg (lt_irrefl _)],
    show Slot m κ c (k.val + 1) k = (if k.val < 14 then iprop(cred (tallyAt (sendCell c k) () N)) else iprop(sbLoc c ↦[(sbR k).set]{fullShare} SB m c)) by
      unfold Slot; rw [if_pos (Nat.lt_succ_self _)]]

/-- The store of the point's block into its slot. -/
theorem store_step (c : Dev nD) (k : Fin 16) {off : Fin 3 → ℕ} {inb} (ho : off = sbOff k)
    {α : Type} {Q : α → sProp 𝕄} {kk : PUnit → Prog (TpuEff nD τ sig (Elt F) Λ₀ .tc) α} {w} (hw : w = blk m c k.val) {h1 h2} :
    sbAny (F := F) c k ⊢ iprop(((sbLoc c ↦[(sbR k).set]{fullShare} SB m c) -∗ WP c (kk ⟨⟩) Q)
      -∗ WP c (.op (.store sbM (Rect.unit (s := S16x1024x256) off S1x1024x256.size inb) w Finset.univ h1 h2) kk) Q) := by
  subst ho; subst hw
  unfold sbAny
  iintro ⟨%f, H⟩ Hk
  iapply (wp_store 𝒱₀ (c : Thread nD τ) none Set.univ (m := sbM) (r := sbR k) (S := (sbR k).set) (f := f)
    (by show (sbM.access (sbR k)).set ⊆ (sbR k).set; rw [show (sbM.access (sbR k)).set = (sbR k).set from View.set_slice_whole _ _])) $$ H
  iintro H
  iapply Hk
  iapply (Entails.of_eq (pointsTo_congr (slot_store m c _ (sbOff_inb k) k rfl f))) $$ H

/-- The load of the slot, whose value is not used. -/
theorem load_step (c : Dev nD) (k : Fin 16) {off : Fin 3 → ℕ} {inb} (ho : off = sbOff k)
    {α : Type} {Q : α → sProp 𝕄} {kk : _ → Prog (TpuEff nD τ sig (Elt F) Λ₀ .tc) α} {h1} :
    sbAny (F := F) c k ⊢ iprop((∀ v, sbAny (F := F) c k -∗ WP c (kk v) Q)
      -∗ WP c (.op (.load sbM (Rect.unit (s := S16x1024x256) off S1x1024x256.size inb).toLoadRect h1) kk) Q) := by
  subst ho
  unfold sbAny
  iintro ⟨%f, H⟩ Hk
  iapply (wp_load 𝒱₀ (c : Thread nD τ) none Set.univ (m := sbM) (S := (sbR k).set) (f := f)
    (fun x hx => by obtain ⟨y, hy, rfl⟩ := Finset.mem_map.mp hx; exact hy)) $$ H
  iintro H
  iapply Hk
  iexists f; iexact H

/-- The point's block sent under its condition; when it is the device's own, it stays in its slot. -/
theorem send_rest (c : Dev nD) (k : Fin 16) (h : ¬ k.val < 14) :
    iprop((if k.val < 14 then copyTok m κ c k else iprop(emp)) ∗ (sbLoc c ↦[(sbR k).set]{fullShare} SB m c) ∗ Owes c (Orem c k.val))
      ⊢ iprop((if k.val < 14 then iprop(cred (tallyAt (sendCell c k) () N)) else iprop(sbLoc c ↦[(sbR k).set]{fullShare} SB m c))
        ∗ Owes (F := F) c (Orem c (k.val + 1))) := by
  rw [if_neg h, if_neg h, Orem_done c k.val (by omega), Orem_done c (k.val + 1) (by omega)]
  iintro ⟨-, HS, HO⟩
  isplitl [HS]; · iexact HS
  iexact HO

theorem dev9 (i : grid0.Coords) (c : Dev nD) (h) : (⟨k0_dev9 i c, h⟩ : Dev nD) = dest c (i 0).val := Fin.ext (by
  show k0_dev9 i c = _
  rw [k0_dev9_eq]; rfl)

theorem Recv_open (c : Dev nD) (k : ℕ) : RecvAt m κ c k ⊢ iprop(bigSep Finset.univ (RW m κ c k) ∗ Owes (F := F) c 0) := Entails.refl _
theorem Sent_mk (c : Dev nD) (k : ℕ) : iprop(bigSep Finset.univ (SW m κ c k) ∗ Owes (F := F) c 0) ⊢ SentAt m κ c k := Entails.refl _
theorem Sent_open (c : Dev nD) (k : ℕ) : SentAt m κ c k ⊢ iprop(bigSep Finset.univ (SW m κ c k) ∗ Owes (F := F) c 0) := Entails.refl _

set_option maxHeartbeats 1600000 in
/-- The body at any point. -/
theorem body_wp (c : Dev nD) (i : grid0.Coords) {h1 h2 h3 h4 h5} (K : PUnit → sProp 𝕄) :
    Before m κ c (i 0).val
      ⊢ iprop((After m κ c (i 0).val -∗ K ⟨⟩)
        -∗ WP c (cc0_body i xM h1 wM h2 oM h3 stM h4 sbM h5 cc0_scratch2 cc0_scratch3 cc0_scratch4 cc0_scratch5) K) := by
  rw [cc0_body_eq_skeleton]; unfold cc0_body_skel
  simp -zetaHave only [Prog.lift, Prog.bind_op, Prog.bind_ret, Prog.pure_eq_ret]
  iintro HB HK
  iapply (wp_seqv c (fun K' => part8_wp m κ c i K')) $$ HB
  iintro HM
  extract_lets r s1 s2 s3 s4 s5 s6 s7 s8 jp
  subst r s1 s2 s3 s4 s5 s6 s7 s8
  have hlt : (i 0).val < 16 := (i 0).isLt
  ihave HK : iprop(Post m κ c (i 0).val -∗ WP c (jp ⟨⟩) K) $$ [HK]
  · iintro HP
    dsimp only [jp]
    by_cases hi : (i 0).val = 15
    · have hc := (cond12_iff i).mpr hi
      rw [dif_pos hc]
      ihave HP := (post_last m κ c hi) $$ HP
      icases HP with ⟨HL, Hrest⟩
      ihave HL := (last_open m κ c) $$ HL
      icases HL with ⟨H0, H1, HR, HS⟩
      iapply (wp_seqv c (fun K' => part2_wp m κ c i _ hc K')) $$ [H0 H1 HR]
      · isplitl [H0]; · iexact H0
        isplitl [H1]; · iexact H1
        iexact HR
      iintro ⟨H0, H1, HR⟩
      iapply (wp_seqv c (fun K' => part3_wp m κ c i _ _ _ K')) $$ HR; iintro HR
      iapply (wp_seqv c (fun K' => part4_wp m κ c i _ _ K')) $$ HR; iintro HR
      ihave HR := (Recv_open m κ c 16) $$ HR
      icases HR with ⟨HR, HO⟩
      ihave HS := (Sent_mk m κ c 0) $$ [HS HO]
      · isplitl [HS]; · iexact HS
        iexact HO
      iapply (wp_seqv c (fun K' => part5_wp m κ c i K')) $$ HS; iintro HS
      iapply (wp_seqv c (fun K' => part6_wp m κ c i K')) $$ HS; iintro HS
      iapply (wp_seqv c (fun K' => part7_wp m κ c i K')) $$ HS; iintro HS
      iapply (sent_at m κ c 12 (by decide) (send_sem _ _ _ rfl) (by rfl)) $$ HS; iintro HS
      iapply (sent_at m κ c 13 (by decide) (send_sem _ _ _ rfl) (by rfl)) $$ HS; iintro HS
      ihave HS := (Sent_open m κ c 14) $$ HS
      icases HS with ⟨HS, HO⟩
      iapply (loc_wait m c 0 (by rfl) (loc_sem _ _ 0 rfl)) $$ [H0 HO]
      · isplitl [H0]; · iexact H0
        iexact HO
      iintro ⟨H0, HO⟩
      iapply (loc_wait m c 1 (by rfl) (loc_sem _ _ 1 rfl)) $$ [H1 HO]
      · isplitl [H1]; · iexact H1
        iexact HO
      iintro ⟨H1, HO⟩
      iapply (wp_end c)
      iapply HK
      iapply (last_after m κ c (by omega))
      isplitr [Hrest]
      · iapply (last_close m κ c)
        isplitl [H0]; · iexact H0
        isplitl [H1]; · iexact H1
        isplitl [HO]; · iexact HO
        isplitl [HR]; · iexact HR
        iexact HS
      · iexact Hrest
    · rw [dif_neg (fun h => hi ((cond12_iff i).mp h))]
      iapply (wp_end c)
      iapply HK
      iapply (post_after m κ c _ (by omega))
      iexact HP
  clear_value jp
  ihave HM := (Mid_open m κ c _) $$ HM
  icases HM with ⟨Hx, Hl, HO, Hw, Hn, Hb, Hs, He⟩
  ihave HK : iprop((bigSep Finset.univ (Slot m κ c ((i 0).val + 1)) ∗ Owes (F := F) c (Orem c ((i 0).val + 1))) -∗ WP c (jp ⟨⟩) K) $$ [HK Hx Hl Hw Hn Hb He]
  · iintro ⟨Hs, HO⟩
    iapply HK
    unfold Post
    isplitl [Hx]; · iexact Hx
    isplitl [Hl]; · iexact Hl
    isplitl [HO]; · iexact HO
    isplitl [Hw]; · iexact Hw
    isplitl [Hn]; · iexact Hn
    isplitl [Hb]; · iexact Hb
    isplitl [Hs]; · iexact Hs
    iexact He
  ihave Hs := (slot_take m κ c ⟨(i 0).val, hlt⟩) $$ Hs
  icases Hs with ⟨⟨Hs, Ht⟩, Hback⟩
  iapply (load_step c ⟨(i 0).val, hlt⟩ (by rw [k0_off9_eq]; rfl)) $$ Hs
  iintro %v35 Hs
  iapply (store_step m c ⟨(i 0).val, hlt⟩ (by rw [k0_off9_eq]; rfl) rfl) $$ Hs
  iintro Hs
  by_cases hi : (i 0).val < 14
  · rw [dif_pos ((cond11_iff i c).mpr hi)]
    ihave Ht := (Entails.of_eq (if_pos (c := (i 0).val < 14) hi)) $$ Ht
    iapply (send_step m κ c ⟨(i 0).val, hlt⟩ hi (dev9 i c _) (by rw [k0_off13_eq]; rfl) (by rw [k0_off12_eq]; rfl)
      (send_sem _ _ _ (by rw [k0_off10_eq])) (recv_sem _ _ _ (by rw [k0_off11_eq]; rfl))) $$ [Ht Hs HO]
    · isplitl [Ht]; · iexact Ht
      isplitl [Hs]; · iexact Hs
      iexact HO
    iintro ⟨Hcr, HO⟩
    iapply HK
    isplitl [Hback Hcr]
    · iapply Hback
      iapply (Entails.of_eq (if_pos (c := (i 0).val < 14) hi).symm) $$ Hcr
    · iexact HO
  · rw [dif_neg (fun h => hi ((cond11_iff i c).mp h))]
    ihave H := (send_rest m κ c ⟨(i 0).val, hlt⟩ hi) $$ [Ht Hs HO]
    · isplitl [Ht]; · iexact Ht
      isplitl [Hs]; · iexact Hs
      iexact HO
    icases H with ⟨Hs, HO⟩
    iapply HK
    isplitl [Hback Hs]
    · iapply Hback
      iexact Hs
    · iexact HO

end Cert.KernelProof

end
-- ==== Proof.KernelBlocks.lean ====
/-
  The buffers in blocks: the result's sixteen, the send buffer's sixteen slots, the weights' two staging slots. Held whole
  is held block by block, and blocks at contents of their own join to the whole at some contents.
-/
module

public import proofs.«01_k».proof.Proof.KernelState
public import Idealize.ShloMosaic.Lib.Ring

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem oR_mem (d : Dev nD) (h : Fin 2) (j : S8192x512.Idx) : j ∈ (oR d h).set ↔ (j 0).val / 1024 = d.val ∧ (j 1).val / 256 = h.val := by
  rw [Rect.mem_set_unit, Fin.forall_fin_two]
  show (1024 * d.val ≤ (j 0).val ∧ (j 0).val < 1024 * d.val + 1024) ∧ (256 * h.val ≤ (j 1).val ∧ (j 1).val < 256 * h.val + 256) ↔ _
  omega
theorem sbR_mem (k : Fin 16) (j : S16x1024x256.Idx) : j ∈ (sbR k).set ↔ (j 0).val = k.val := by
  rw [Rect.mem_set_unit]
  have h1 : (j 1).val < 1024 := (j 1).isLt
  have h2 : (j 2).val < 256 := (j 2).isLt
  constructor
  · intro h
    have : k.val ≤ (j 0).val ∧ (j 0).val < k.val + 1 := h 0
    omega
  · intro h a
    match a with
    | ⟨0, _⟩ => show k.val ≤ (j 0).val ∧ (j 0).val < k.val + 1; omega
    | ⟨1, _⟩ => show 0 ≤ (j 1).val ∧ (j 1).val < 0 + 1024; omega
    | ⟨2, _⟩ => show 0 ≤ (j 2).val ∧ (j 2).val < 0 + 256; omega
theorem stR_mem (k : Fin 2) (j : S2x8192x256.Idx) : j ∈ (stR k).set ↔ (j 0).val = k.val := by
  rw [Rect.mem_set_unit]
  have h1 : (j 1).val < 8192 := (j 1).isLt
  have h2 : (j 2).val < 256 := (j 2).isLt
  constructor
  · intro h
    have : k.val ≤ (j 0).val ∧ (j 0).val < k.val + 1 := h 0
    omega
  · intro h a
    match a with
    | ⟨0, _⟩ => show k.val ≤ (j 0).val ∧ (j 0).val < k.val + 1; omega
    | ⟨1, _⟩ => show 0 ≤ (j 1).val ∧ (j 1).val < 0 + 8192; omega
    | ⟨2, _⟩ => show 0 ≤ (j 2).val ∧ (j 2).val < 0 + 256; omega

/-- The sets of the blocks, by device and half, and of the slots. -/
abbrev oI (x : Dev nD × Fin 2) : Finset S8192x512.Idx := (oR x.1 x.2).set
abbrev sbI (k : Fin 16) : Finset S16x1024x256.Idx := (sbR k).set
abbrev stI (k : Fin 2) : Finset S2x8192x256.Idx := (stR k).set

theorem oI_disj (x y : Dev nD × Fin 2) (h : x ≠ y) : Disjoint (oI x) (oI y) :=
  Finset.disjoint_left.mpr fun j hx hy => h (by
    have hx := (oR_mem _ _ j).mp hx
    have hy := (oR_mem _ _ j).mp hy
    exact Prod.ext (Fin.ext (hx.1.symm.trans hy.1)) (Fin.ext (hx.2.symm.trans hy.2)))
theorem oI_cover : Finset.univ.biUnion oI = Finset.univ :=
  Finset.eq_univ_iff_forall.mpr fun j => Finset.mem_biUnion.mpr ⟨(⟨(j 0).val / 1024, by
      have : (j 0).val < 8192 := (j 0).isLt
      show _ < 8; omega⟩, ⟨(j 1).val / 256, by
      have : (j 1).val < 512 := (j 1).isLt
      omega⟩), Finset.mem_univ _, (oR_mem _ _ j).mpr ⟨rfl, rfl⟩⟩
theorem sbI_disj (x y : Fin 16) (h : x ≠ y) : Disjoint (sbI x) (sbI y) :=
  Finset.disjoint_left.mpr fun j hx hy => h (Fin.ext (((sbR_mem _ j).mp hx).symm.trans ((sbR_mem _ j).mp hy)))
theorem sbI_cover : Finset.univ.biUnion sbI = Finset.univ :=
  Finset.eq_univ_iff_forall.mpr fun j => Finset.mem_biUnion.mpr ⟨(j 0 : Fin 16), Finset.mem_univ _, (sbR_mem _ j).mpr rfl⟩
theorem stI_disj (x y : Fin 2) (h : x ≠ y) : Disjoint (stI x) (stI y) :=
  Finset.disjoint_left.mpr fun j hx hy => h (Fin.ext (((stR_mem _ j).mp hx).symm.trans ((stR_mem _ j).mp hy)))
theorem stI_cover : Finset.univ.biUnion stI = Finset.univ :=
  Finset.eq_univ_iff_forall.mpr fun j => Finset.mem_biUnion.mpr ⟨(j 0 : Fin 2), Finset.mem_univ _, (stR_mem _ j).mpr rfl⟩

/-- Held whole is held block by block; -/
theorem o_blocks (c : Dev nD) (f : Buf (Elt F) (oLoc c)) :
    (oLoc c ↦{fullShare} f : sProp 𝕄) = bigSep Finset.univ fun x : Dev nD × Fin 2 => oLoc c ↦[(oR x.1 x.2).set]{fullShare} f :=
  Ring.pointsTo_blocks (ℓ := oLoc c) oI oI_disj oI_cover f
theorem sb_blocks (c : Dev nD) (f : Buf (Elt F) (sbLoc c)) :
    (sbLoc c ↦{fullShare} f : sProp 𝕄) = bigSep Finset.univ fun k : Fin 16 => sbLoc c ↦[(sbR k).set]{fullShare} f :=
  Ring.pointsTo_blocks (ℓ := sbLoc c) sbI sbI_disj sbI_cover f
theorem st_blocks (c : Dev nD) (f : Buf (Elt F) (stLoc c)) :
    (stLoc c ↦{fullShare} f : sProp 𝕄) = bigSep Finset.univ fun k : Fin 2 => stLoc c ↦[(stR k).set]{fullShare} f :=
  Ring.pointsTo_blocks (ℓ := stLoc c) stI stI_disj stI_cover f
/-- and slots at contents of their own join. -/
theorem st_join (c : Dev nD) (f₀ : Buf (Elt F) (stLoc c)) :
    (bigSep Finset.univ fun k : Fin 2 => iprop(∃ f : Buf (Elt F) (stLoc c), stLoc c ↦[(stR k).set]{fullShare} f))
      ⊢ (iprop(∃ g : Buf (Elt F) (stLoc c), stLoc c ↦{fullShare} g) : sProp 𝕄) :=
  Ring.pointsTo_blocks_join_exists (ℓ := stLoc c) stI stI_disj stI_cover f₀

/-- Number `k` names the half `k % 2` of device `k / 2`: every pair once. -/
def pairAt (k : Fin 16) : Dev nD × Fin 2 := (dv (k.val / 2), ⟨k.val % 2, Nat.mod_lt _ (by decide)⟩)
theorem pairAt_bij : Function.Bijective pairAt := by decide +kernel
def pairAtEquiv : Fin 16 ≃ Dev nD × Fin 2 := Equiv.ofBijective _ pairAt_bij

theorem o_cells (c : Dev nD) (f : Buf (Elt F) (oLoc c)) :
    (oLoc c ↦{fullShare} f : sProp 𝕄)
      = bigSep Finset.univ fun k : Fin 16 => oLoc c ↦[(oR (dv (k.val / 2)) ⟨k.val % 2, Nat.mod_lt _ (by decide)⟩).set]{fullShare} f := by
  rw [o_blocks, bigSep_univ_equiv pairAtEquiv]; rfl

/-- The two numbers of a device among the sixteen. -/
theorem pick_own (c : Dev nD) (Φ : Dev nD × Fin 2 → sProp 𝕄) :
    (bigSep Finset.univ fun k : Fin 16 => if k.val / 2 = c.val then Φ (pairAt k) else iprop(emp)) = iprop(Φ (c, 0) ∗ Φ (c, 1)) := by
  have h1 : (bigSep Finset.univ fun k : Fin 16 => if k.val / 2 = c.val then Φ (pairAt k) else iprop(emp))
      = bigSep Finset.univ fun k : Fin 16 => (fun x : Dev nD × Fin 2 => if x.1 = c then Φ x else iprop(emp)) (pairAtEquiv k) :=
    bigSep_congr fun k _ => by
      show _ = if dv (k.val / 2) = c then Φ (pairAt k) else iprop(emp)
      have hk := k.isLt
      have : dv (k.val / 2) = c ↔ k.val / 2 = c.val := by
        rw [Fin.ext_iff]; show k.val / 2 % 8 = c.val ↔ _; omega
      exact if_congr this.symm rfl rfl
  rw [h1]
  refine (bigSep_univ_equiv pairAtEquiv (fun x : Dev nD × Fin 2 => if x.1 = c then Φ x else iprop(emp))).symm.trans ?_
  rw [bigSep_univ_prod]
  rw [show (bigSep Finset.univ fun d : Dev nD => bigSep Finset.univ fun h : Fin 2 => if (d, h).1 = c then Φ (d, h) else iprop(emp))
      = bigSep Finset.univ fun d : Dev nD => if d = c then bigSep Finset.univ (fun h : Fin 2 => Φ (d, h)) else iprop(emp) from
      bigSep_congr fun d _ => by
        by_cases hd : d = c
        · rw [if_pos hd]; exact bigSep_congr fun h _ => if_pos hd
        · rw [if_neg hd, bigSep_congr (fun h _ => if_neg hd)]; exact bigSep_emp_const _]
  refine Eq.trans (bigSep_filter Finset.univ (fun d : Dev nD => d = c) (fun d => bigSep Finset.univ fun h : Fin 2 => Φ (d, h))).symm ?_
  rw [show (Finset.univ.filter (fun d : Dev nD => d = c)) = {c} by ext d; simp, bigSep_singleton, bigSep_fin_two]
  rfl

end Cert.KernelProof

end
-- ==== Proof.KernelLoop.lean ====
/-
  The pipeline's loop around the body: the fetch of the device's rows of `x` before the first point, the body at the
  sixteen points, and the write-back of the result after the last.
-/
module

public import proofs.«01_k».proof.Proof.KernelEpilogue
public import proofs.«01_k».proof.Proof.KernelBlocks
public import proofs.«01_k».proof.Proof.Gen.Kernel.Points

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (F) in
/-- The operations of the program around the body. -/
abbrev EffL : Type → Type _ := TpuEff nD τ sig (Elt F) (Pipeline.Sig Λ₀ (Fin 1) fun p => (pcfgs (F := F) p).Adm) Proc.tc

variable (m : (ℓ : Loc nD τ sig) → Buf (Elt F) ℓ)
variable (κ : GSem nD τ sig → ℕ)

abbrev 𝕍 : Variants := Variants.lift 𝒱₀

/-- The weakest precondition of a stretch of device `c`'s program around the body, with calls below `bd`. -/
abbrev WPL (c : Dev nD) (bd : Option 𝕍.V) {α : Type} (p : Prog (EffL F) α) (Q : α → sProp 𝕄) : sProp 𝕄 :=
  wp frame (wpE (defs (F := F)) 𝕍 (c : Thread nD τ) bd) Set.univ p Q

abbrev aLoc (c : Dev nD) : Loc nD τ sig := (c : Thread nD τ).loc main_arg0
abbrev rLoc (c : Dev nD) : Loc nD τ sig := (c : Thread nD τ).loc main_v1
abbrev stgS (w : Fin 2) : DmaSem sig := ⟨w.val, by have := w.isLt; show _ < 38; omega⟩

theorem slots0 (t : Fin cfg0.N) : cfg0.slots t 0 = (0 : Fin 1) := Subsingleton.elim (α := Fin 1) _ _
theorem slots1 (t : Fin cfg0.N) : cfg0.slots t 1 = (0 : Fin 1) := Subsingleton.elim (α := Fin 1) _ _

theorem blk0_emb (t : Fin cfg0.N) (j : S1024x8192.Idx) : (win0_0.blk t).view.emb j = j := by
  funext a
  refine Fin.ext ?_
  match a with
  | ⟨0, _⟩ => show 0 * 1024 + 1 * (j 0).val = (j 0).val; omega
  | ⟨1, _⟩ => show 0 * 8192 + 1 * (j 1).val = (j 1).val; omega
theorem stg0_emb (t : Fin cfg0.N) (j : S1024x8192.Idx) : (win0_0.stg t 0).view.emb j = j := by
  funext a
  refine Fin.ext ?_
  match a with
  | ⟨0, _⟩ => show 0 + 1 * (j 0).val = (j 0).val; omega
  | ⟨1, _⟩ => show 0 + 1 * (j 1).val = (j 1).val; omega
theorem blk1_emb (t : Fin cfg0.N) (j : S8192x512.Idx) : (win0_1.blk t).view.emb j = j := by
  funext a
  refine Fin.ext ?_
  match a with
  | ⟨0, _⟩ => show 0 * 8192 + 1 * (j 0).val = (j 0).val; omega
  | ⟨1, _⟩ => show 0 * 512 + 1 * (j 1).val = (j 1).val; omega
theorem stg1_emb (t : Fin cfg0.N) (j : S8192x512.Idx) : (win0_1.stg t 0).view.emb j = j := by
  funext a
  refine Fin.ext ?_
  match a with
  | ⟨0, _⟩ => show 0 + 1 * (j 0).val = (j 0).val; omega
  | ⟨1, _⟩ => show 0 + 1 * (j 1).val = (j 1).val; omega

theorem blk0_set (t : Fin cfg0.N) : (win0_0.blk t).view.set = Finset.univ :=
  Finset.eq_univ_iff_forall.mpr fun i => Finset.mem_map.mpr ⟨i, Finset.mem_univ _, blk0_emb t i⟩
theorem stg0_set (t : Fin cfg0.N) : (win0_0.stg t 0).view.set = Finset.univ :=
  Finset.eq_univ_iff_forall.mpr fun i => Finset.mem_map.mpr ⟨i, Finset.mem_univ _, stg0_emb t i⟩
theorem blk1_set (t : Fin cfg0.N) : (win0_1.blk t).view.set = Finset.univ :=
  Finset.eq_univ_iff_forall.mpr fun i => Finset.mem_map.mpr ⟨i, Finset.mem_univ _, blk1_emb t i⟩
theorem stg1_set (t : Fin cfg0.N) : (win0_1.stg t 0).view.set = Finset.univ :=
  Finset.eq_univ_iff_forall.mpr fun i => Finset.mem_map.mpr ⟨i, Finset.mem_univ _, stg1_emb t i⟩

theorem x_landed (t : Fin cfg0.N) (g fd : S1024x8192.Idx → Elt F .bf16) :
    ∀ y ∈ (Finset.univ : Finset S1024x8192.Idx), (win0_0.stg t 0).view.write (Elt F) fd ((win0_0.blk t).view.read (Elt F) g) Finset.univ y = g y := by
  intro y _
  refine (congrArg ((win0_0.stg t 0).view.write (Elt F) fd ((win0_0.blk t).view.read (Elt F) g) Finset.univ) (stg0_emb t y).symm).trans ?_
  rw [View.write_emb, if_pos (Finset.mem_univ _), View.read_apply]
  exact congrArg g (blk0_emb t y)
theorem o_landed (t : Fin cfg0.N) (g fd : S8192x512.Idx → Elt F .bf16) :
    ∀ y ∈ (Finset.univ : Finset S8192x512.Idx), (win0_1.blk t).view.write (Elt F) fd ((win0_1.stg t 0).view.read (Elt F) g) Finset.univ y = g y := by
  intro y _
  refine (congrArg ((win0_1.blk t).view.write (Elt F) fd ((win0_1.stg t 0).view.read (Elt F) g) Finset.univ) (blk1_emb t y).symm).trans ?_
  rw [View.write_emb, if_pos (Finset.mem_univ _), View.read_apply]
  exact congrArg g (stg1_emb t y)

/-- A copy between two whole buffers of the device and its wait. -/
theorem copy_wait (c : Dev nD) {sp sp' : Space} {sh : Shape} {e : EltTy} (src : Memref sig .tc sp sh e) (dst : Memref sig .tc sp' sh e)
    (sem : DmaSem sig) (bd : Option 𝕍.V) (O : CellTallies nD τ sig Unit) (q : PosShare TreeShare)
    (fs : Buf (Elt F) (src.view.loc (c : Thread nD τ))) (fd g : Buf (Elt F) (dst.view.loc (c : Thread nD τ)))
    (hpos : 0 < sh.numel)
    (hg : ∀ y ∈ (Finset.univ : Finset (Idx (dst.view.loc (c : Thread nD τ)))), dst.view.write (Elt F) fd (src.view.read (Elt F) fs) Finset.univ y = g y)
    {h1 h2 h3 h4 h5} {α : Type} {k : Prog (EffL F) α} {Q : α → sProp 𝕄} :
    iprop((src.view.loc (c : Thread nD τ) ↦[src.view.set]{q} fs) ∗ (dst.view.loc (c : Thread nD τ) ↦{fullShare} fd) ∗ semVal ((c : Thread nD τ), SemLoc.dma sem) 0
        ∗ Owes (F := F) c O ∗ MayWait (c : Thread nD τ) (.dma sem) () O)
      ⊢ iprop((iprop((src.view.loc (c : Thread nD τ) ↦[src.view.set]{q} fs) ∗ (dst.view.loc (c : Thread nD τ) ↦{fullShare} g) ∗ semVal ((c : Thread nD τ), SemLoc.dma sem) 0
          ∗ Owes (F := F) c O) -∗ WPL c bd k Q)
        -∗ WPL c bd (.op (.enqueueDma src (.here dst) (.dma sem) h1 h2 h3) fun _ => .op (.waitDma2 sem src dst h4 h5) fun _ => k) Q) := by
  unfold Owes
  iintro ⟨Ha, Hf, Hv, ⟨%Wt, HO⟩, Hmw⟩ Hk
  iapply (wp_dmaLocal EC 𝕍 (c : Thread nD τ) bd (src := src) (dst := dst) (sm := .dma sem) (q := q) (fs := fs)
    (Sd := Finset.univ) (fd := fd) () dst.view.dmaCredit rfl (View.dmaCredit_pos _ hpos) (Finset.subset_univ _)) $$ [Hf Hv Ha]
  · isplitl [Ha]; · iexact Ha
    isplitl [Hf]; · iexact Hf
    iexact Hv
  iintro Hfl
  iapply (wp_waitLocalO EC 𝕍 (c : Thread nD τ) bd () (by rfl)) $$ [Hfl HO Hmw]
  · isplitl [Hfl]; · iexact Hfl
    isplitl [HO]; · iexact HO
    iexact Hmw
  iintro ⟨⟨Hx, Ha⟩, Hv, HO⟩
  iapply Hk
  isplitl [Ha]; · iexact Ha
  isplitl [Hx]
  · iapply (Entails.of_eq (pointsTo_congr hg)); iexact Hx
  isplitl [Hv]; · iexact Hv
  iexists _; iexact HO

/-- The pipeline's copies and waits, by the staging buffer they use. -/
def inStart (t : Fin cfg0.N) (s : Fin 1) : EffL F PUnit :=
  .enqueueDma (win0_0.blk t) (.here (win0_0.stg t s)) (.dma (win0_0.sem s)) (win0_0.wordExact_blk t) (win0_0.wordExact_stg t s) ⟨Or.inl rfl, trivial⟩
def inWait (t : Fin cfg0.N) (s : Fin 1) : EffL F PUnit :=
  .waitDma2 (win0_0.sem s) (win0_0.blk t) (win0_0.stg t s) (win0_0.wordExact_blk t) (win0_0.wordExact_stg t s)
def outStart (t : Fin cfg0.N) (s : Fin 1) : EffL F PUnit :=
  .enqueueDma (win0_1.stg t s) (.here (win0_1.blk t)) (.dma (win0_1.sem s)) (win0_1.wordExact_stg t s) (win0_1.wordExact_blk t) ⟨Or.inl rfl, trivial⟩
def outWait (t : Fin cfg0.N) (s : Fin 1) : EffL F PUnit :=
  .waitDma2 (win0_1.sem s) (win0_1.stg t s) (win0_1.blk t) (win0_1.wordExact_stg t s) (win0_1.wordExact_blk t)

theorem startIn_eq (t : Fin cfg0.N) : (cfg0.startIn 0 t : EffL F PUnit) = inStart t 0 := by rw [← slots0 t]; rfl
theorem waitIn_eq (t : Fin cfg0.N) : (cfg0.waitIn 0 t : EffL F PUnit) = inWait t 0 := by rw [← slots0 t]; rfl
theorem startOut_eq (t : Fin cfg0.N) : (cfg0.startOut 1 t : EffL F PUnit) = outStart t 0 := by rw [← slots1 t]; rfl
theorem waitOut_eq (t : Fin cfg0.N) : (cfg0.waitOut 1 t : EffL F PUnit) = outWait t 0 := by rw [← slots1 t]; rfl

/-- The fetch of the device's rows of `x` and its wait. -/
theorem fetch_x (c : Dev nD) (t : Fin cfg0.N) (bd : Option 𝕍.V) {α : Type} {k : Prog (EffL F) α} {Q : α → sProp 𝕄} (q : PosShare TreeShare) :
    iprop((aLoc c ↦{q} X m c) ∗ (∃ f : Buf (Elt F) (xLoc c), xLoc c ↦{fullShare} f) ∗ semVal ((c : Thread nD τ), SemLoc.dma (stgS 0)) 0
        ∗ Owes (F := F) c (Osig c 0) ∗ levAts L lv)
      ⊢ iprop((iprop((aLoc c ↦{q} X m c) ∗ (xLoc c ↦{fullShare} X m c) ∗ semVal ((c : Thread nD τ), SemLoc.dma (stgS 0)) 0
          ∗ Owes (F := F) c (Osig c 0) ∗ levAts L lv) -∗ WPL c bd k Q)
        -∗ WPL c bd (.op (cfg0.startIn 0 t) fun _ => .op (cfg0.waitIn 0 t) fun _ => k) Q) := by
  rw [startIn_eq, waitIn_eq]
  unfold inStart inWait
  iintro ⟨Ha, ⟨%f, Hf⟩, Hv, HO, #Hl⟩ Hk
  iapply (copy_wait c (win0_0.blk t) (win0_0.stg t 0) (stgS 0) bd (Osig c 0) q (X m c) f (X m c) (show 0 < S1024x8192.numel by decide) (x_landed t (X m c) f)) $$ [Ha Hf Hv HO]
  · isplitl [Ha]; · rw [blk0_set]; iexact Ha
    isplitl [Hf]; · iexact Hf
    isplitl [Hv]; · iexact Hv
    isplitl [HO]; · iexact HO
    iapply (mayWait_sig c (stgS 0) (by decide) 0); iexact Hl
  iintro ⟨Ha, Hx, Hv, HO⟩
  iapply Hk
  isplitl [Ha]; · iapply (Entails.of_eq (show (aLoc c ↦[(win0_0.blk t).view.set]{q} X m c : sProp 𝕄) = (aLoc c ↦{q} X m c) by rw [blk0_set])); iexact Ha
  isplitl [Hx]; · iexact Hx
  isplitl [Hv]; · iexact Hv
  isplitl [HO]; · iexact HO
  iexact Hl

/-- The write-back of the result and its wait. -/
theorem flush_o (c : Dev nD) (t : Fin cfg0.N) (bd : Option 𝕍.V) {α : Type} {k : Prog (EffL F) α} {Q : α → sProp 𝕄} (g : S8192x512.Idx → Elt F .bf16) :
    iprop((oLoc c ↦{fullShare} g) ∗ (∃ f : Buf (Elt F) (rLoc c), rLoc c ↦{fullShare} f) ∗ semVal ((c : Thread nD τ), SemLoc.dma (stgS 1)) 0
        ∗ Owes (F := F) c 0)
      ⊢ iprop((iprop((oLoc c ↦{fullShare} g) ∗ (rLoc c ↦{fullShare} g) ∗ semVal ((c : Thread nD τ), SemLoc.dma (stgS 1)) 0
          ∗ Owes (F := F) c 0) -∗ WPL c bd k Q)
        -∗ WPL c bd (.op (cfg0.startOut 1 t) fun _ => .op (cfg0.waitOut 1 t) fun _ => k) Q) := by
  rw [startOut_eq, waitOut_eq]
  unfold outStart outWait
  iintro ⟨Ha, ⟨%f, Hf⟩, Hv, HO⟩ Hk
  iapply (copy_wait c (win0_1.stg t 0) (win0_1.blk t) (stgS 1) bd 0 fullShare g f g (show 0 < S8192x512.numel by decide) (o_landed t g f)) $$ [Ha Hf Hv HO]
  · isplitl [Ha]; · rw [stg1_set]; iexact Ha
    isplitl [Hf]; · iexact Hf
    isplitl [Hv]; · iexact Hv
    isplitl [HO]; · iexact HO
    rw [MayWait_zero]; iempintro
  iintro ⟨Ha, Hx, Hv, HO⟩
  iapply Hk
  isplitl [Ha]; · iapply (Entails.of_eq (show (oLoc c ↦[(win0_1.stg t 0).view.set]{fullShare} g : sProp 𝕄) = (oLoc c ↦{fullShare} g) by rw [stg1_set])); iexact Ha
  isplitl [Hx]; · iexact Hx
  isplitl [Hv]; · iexact Hv
  iexact HO

/-! ## The loop's iterations -/

abbrev ad : (pcfgs (F := F) 0).Adm := ⟨Pipeline.Prefetch.Contents.none, trivial⟩

theorem each_two (p : Fin 2 → Bool) (f : Fin 2 → Prog (EffL F) PUnit → Prog (EffL F) PUnit) (k : Prog (EffL F) PUnit) :
    cfg0.eachWin p f k = (if p 0 then f 0 (if p 1 then f 1 k else k) else if p 1 then f 1 k else k) := rfl
theorem each_none (p : Fin 2 → Bool) (h : ∀ w, p w = false) (f : Fin 2 → Prog (EffL F) PUnit → Prog (EffL F) PUnit) (k : Prog (EffL F) PUnit) :
    cfg0.eachWin p f k = k := by rw [each_two, h 0, h 1]; rfl
theorem at_skip (t d : ℕ) (f : Fin cfg0.N → Prog (EffL F) PUnit → Prog (EffL F) PUnit) (h : ∀ u k, f u k = k) (k : Prog (EffL F) PUnit) :
    cfg0.atPoint t d f k = k := by
  unfold Pipeline.Cfg.atPoint; split
  · exact h _ _
  · rfl
theorem at_none (t d : ℕ) (f : Fin cfg0.N → Prog (EffL F) PUnit → Prog (EffL F) PUnit) (h : ¬(d ≤ t ∧ t - d < 16)) (k : Prog (EffL F) PUnit) :
    cfg0.atPoint t d f k = k := by
  unfold Pipeline.Cfg.atPoint Pipeline.Cfg.point
  rw [dif_neg (by rw [show cfg0.N = 16 from N_0]; exact h)]
theorem at_some (t : Fin cfg0.N) (f : Fin cfg0.N → Prog (EffL F) PUnit → Prog (EffL F) PUnit) (k : Prog (EffL F) PUnit) :
    cfg0.atPoint (t.val + 1) 1 f k = f t k := by
  unfold Pipeline.Cfg.atPoint Pipeline.Cfg.point
  rw [dif_pos ⟨Nat.le_add_left _ _, t.isLt⟩]
  rfl

/-- What an iteration ends with: the next one, or the loop's end. -/
def next (ℓ : ℕ) : Prog (EffL F) PUnit :=
  if ℓ + 1 < 18 then .op (.call (Pipeline.pipe 0) (ad, ℓ + 1)) fun _ => .ret ⟨⟩ else .ret ⟨⟩

theorem fetch0_1 (t : Fin cfg0.N) : (cfg0.win 1).fetch t = false := rfl
theorem flush0_0 (t : Fin cfg0.N) : (cfg0.win 0).flush t = false := rfl
theorem single_all (w : Fin 2) : (cfg0.win w).single = true := by fin_cases w <;> rfl

theorem trip : cfg0.tripCount = 18 := by decide

theorem iter_idle (ℓ : ℕ) (h : ¬(1 ≤ ℓ ∧ ℓ - 1 < 16)) : cfg0.iter 0 (ad (F := F)) ℓ = next ℓ := by
  unfold Pipeline.Cfg.iter
  rw [at_none _ _ _ h, at_skip, show cfg0.prologue = 1 from rfl, at_none _ _ _ h, at_skip, trip]
  · rfl
  · intro u k; exact each_none _ (fun w => by rw [single_all]; rfl) _ _
  · intro u k; exact each_none _ (fun w => by rw [single_all]; rfl) _ _

/-- The iteration of point `t`: the fetch at the first, the body, the write-back at the last. -/
theorem iter_point (t : Fin cfg0.N) : cfg0.iter 0 (ad (F := F)) (t.val + 1)
    = (let body (k : Prog (EffL F) PUnit) : Prog (EffL F) PUnit := .op (.call (Pipeline.kernel cfg0.body) (cfg0.bodyArgs t (cfg0.slots t))) fun _ => k
       let last := if t.val = 15 then .op (cfg0.startOut 1 t) fun _ => .op (cfg0.waitOut 1 t) fun _ => next (t.val + 1) else next (t.val + 1)
       if t.val = 0 then .op (cfg0.startIn 0 t) fun _ => .op (cfg0.waitIn 0 t) fun _ => body last else body last) := by
  have ht : t.val < 16 := t.isLt
  unfold Pipeline.Cfg.iter
  rw [at_some, at_skip, show cfg0.prologue = 1 from rfl, at_some, at_skip, trip]
  · rw [each_two, each_two, each_two, each_two, single_all, single_all, fetch0_1, flush0_0]
    have hf : (cfg0.win 0).fetch t = decide (t.val = 0) := by
      rw [Bool.eq_iff_iff, fetch0_0, decide_eq_true_iff]; omega
    have hl : (cfg0.win 1).flush t = decide (t.val = 15) := by
      rw [Bool.eq_iff_iff, flush0_1, decide_eq_true_iff]; omega
    rw [hf, hl]
    dsimp only
    by_cases h0 : t.val = 0
    · rw [if_pos h0, if_neg (by omega : ¬ t.val = 15), decide_eq_true h0, decide_eq_false (by omega : ¬ t.val = 15)]
      rfl
    · rw [if_neg h0, decide_eq_false h0]
      by_cases h1 : t.val = 15
      · rw [if_pos h1, decide_eq_true h1]; rfl
      · rw [if_neg h1, decide_eq_false h1]; rfl
  · intro u k; exact each_none _ (fun w => by rw [single_all]; rfl) _ _
  · intro u k; exact each_none _ (fun w => by rw [single_all]; rfl) _ _

theorem coords_val : ∀ t : Fin grid0.N, (grid0.coords t 0).val = t.val := by decide +kernel

/-- The body the loop calls, by the staging buffers it is called on. -/
def bodyOn (t : Fin cfg0.N) (s0 s1 : Fin 1) : Prog (TpuEff nD τ sig (Elt F) Λ₀ .tc) PUnit :=
  cc0_body (grid0.coords t) (win0_0.stage s0) (Facts₀.hstage0_0 (s0.cast Facts₀.nbuf0_0)) (Memref.whole main_arg1) (Memref.isWhole_whole _) (win0_1.stage s1) (Facts₀.hstage0_1 (s1.cast Facts₀.nbuf0_1)) (Memref.whole cc0_scratch0) (Memref.isWhole_whole _) (Memref.whole cc0_scratch1) (Memref.isWhole_whole _) cc0_scratch2 cc0_scratch3 cc0_scratch4 cc0_scratch5

theorem bodyOn_eq (t : Fin cfg0.N) : (defs₀ (F := F) Proc.tc 0 (t, cfg0.slots t)) = bodyOn t 0 0 :=
  (show defs₀ (F := F) Proc.tc 0 (t, cfg0.slots t) = bodyOn t (cfg0.slots t 0) (cfg0.slots t 1) from rfl).trans
    (congrArg₂ (bodyOn t) (slots0 t) (slots1 t))

/-- The loop's calls answered below `n`. -/
def lb (n : ℕ) : Option 𝕍.V := some (Sum.inr n)

theorem wp_done (c : Dev nD) (bd : Option 𝕍.V) {Q : PUnit → sProp 𝕄} : iprop(|={Set.univ}=> Q ⟨⟩) ⊢ WPL c bd (.ret ⟨⟩) Q :=
  Entails.of_eq (wp_ret ..).symm

theorem body_call (c : Dev nD) (t : Fin cfg0.N) (n : ℕ) {k : Prog (EffL F) PUnit} {Q : PUnit → sProp 𝕄} :
    Before m κ c t.val ⊢ iprop((After m κ c t.val -∗ WPL c (lb n) k Q)
      -∗ WPL c (lb n) (.op (.call (Pipeline.kernel cfg0.body) (cfg0.bodyArgs t (cfg0.slots t))) fun _ => k) Q) := by
  iintro H Hk
  iapply (wp_call 𝕍 (c : Thread nD τ) (lb n) Set.univ (Sum.inl none : 𝕍.V) (fun u hu => by cases hu; exact Sum.Lex.sep _ _))
  iapply (Entails.of_eq (show wp frame (wpE (defs (F := F)) 𝕍 (c : Thread nD τ) (some (Sum.inl none))) Set.univ (Pipeline.liftProg (defs₀ (F := F) Proc.tc 0 (t, cfg0.slots t)))
      (fun _ => WPL c (lb n) k Q) = _ from rfl))
  iapply (Pipeline.wp_liftProg (defs (F := F)) (Pipeline.defs_kernel pcfgs defs₀) 𝒱₀ (c : Thread nD τ) Set.univ none (defs₀ (F := F) Proc.tc 0 (t, cfg0.slots t)) _)
  rw [bodyOn_eq]
  unfold bodyOn
  iapply (body_wp m κ c (grid0.coords t) (fun _ => WPL c (lb n) k Q)) $$ [H]
  · rw [coords_val]; iexact H
  rw [coords_val]; iexact Hk

/-! ## The loop -/

/-- What the body's first point needs but for the rows of `x`, the levels and the account of what is owed. -/
def PreRest (c : Dev nD) : sProp 𝕄 :=
  iprop(WIdle m c 0 ∗ WIdle m c 1
    ∗ bigSep (Finset.Ico 0 8) (sigTok m κ c)
    ∗ (cinv m κ (barCell c) ∗ cred (tallyAt (barCell c) () 7) ∗ atPos ER (barCell c) 0 ∅ 0)
    ∗ bigSep Finset.univ (Slot0 m κ c) ∗ Epi m κ c)
/-- The operand and the result with their two semaphores, at any contents of the result. -/
def Arr (c : Dev nD) : sProp 𝕄 :=
  iprop((aLoc c ↦{fullShare} X m c) ∗ (∃ f : Buf (Elt F) (rLoc c), rLoc c ↦{fullShare} f)
    ∗ semVal ((c : Thread nD τ), SemLoc.dma (stgS 0)) 0 ∗ semVal ((c : Thread nD τ), SemLoc.dma (stgS 1)) 0)
/-- Before the loop. -/
def PreLoop (c : Dev nD) : sProp 𝕄 :=
  iprop(Arr m c ∗ (∃ f : Buf (Elt F) (xLoc c), xLoc c ↦{fullShare} f) ∗ levAts L lv ∗ Owes (F := F) c (Osig c 0) ∗ PreRest m κ c)

/-- A receive cell at the end, its block taken. -/
def RWend (c : Dev nD) (k : Fin 16) : sProp 𝕄 :=
  if k.val / 2 = c.val then iprop(emp) else iprop(cinv m κ (recvCell c k) ∗ atPos ER (recvCell c k) 1 ∅ 0)
/-- What is left after the loop beside the operand, the result and the staging buffers. -/
def PostRest (c : Dev nD) : sProp 𝕄 :=
  iprop(levAts L lv ∗ WIdle m c 0 ∗ WIdle m c 1
    ∗ (cinv m κ (barCell c) ∗ atPos ER (barCell c) 1 ∅ 0)
    ∗ bigSep Finset.univ (SGot m κ c)
    ∗ semVal ((c : Thread nD τ), SemLoc.dma (locS 0)) 0 ∗ semVal ((c : Thread nD τ), SemLoc.dma (locS 1)) 0
    ∗ bigSep Finset.univ (RWend m κ c))
/-- After the loop. -/
def PostLoop (c : Dev nD) : sProp 𝕄 :=
  iprop((aLoc c ↦{fullShare} X m c) ∗ (rLoc c ↦{fullShare} OUT m c)
    ∗ semVal ((c : Thread nD τ), SemLoc.dma (stgS 0)) 0 ∗ semVal ((c : Thread nD τ), SemLoc.dma (stgS 1)) 0
    ∗ (oLoc c ↦{fullShare} OUT m c) ∗ (xLoc c ↦{fullShare} X m c) ∗ Owes (F := F) c 0 ∗ PostRest m κ c)

/-- The result's sixteen blocks are the whole of it. -/
theorem out_join (c : Dev nD) :
    iprop((oLoc c ↦[(oR c 0).set]{fullShare} OUT m c) ∗ (oLoc c ↦[(oR c 1).set]{fullShare} OUT m c) ∗ bigSep Finset.univ (RW m κ c 16))
      ⊢ iprop((oLoc c ↦{fullShare} OUT m c) ∗ bigSep Finset.univ (RWend m κ c)) := by
  have hp := pick_own (F := F) c fun x => oLoc c ↦[(oR x.1 x.2).set]{fullShare} OUT m c
  have h1 : iprop((bigSep Finset.univ fun k : Fin 16 => if k.val / 2 = c.val then
        (fun x : Dev nD × Fin 2 => (oLoc c ↦[(oR x.1 x.2).set]{fullShare} OUT m c : sProp 𝕄)) (pairAt k) else iprop(emp)) ∗ bigSep Finset.univ (RW m κ c 16))
      ⊢ iprop((bigSep Finset.univ fun k : Fin 16 => oLoc c ↦[(oR (dv (k.val / 2)) ⟨k.val % 2, Nat.mod_lt _ (by decide)⟩).set]{fullShare} OUT m c)
        ∗ bigSep Finset.univ (RWend m κ c)) := by
    have hk (k : Fin 16) : iprop((if k.val / 2 = c.val then
          (fun x : Dev nD × Fin 2 => (oLoc c ↦[(oR x.1 x.2).set]{fullShare} OUT m c : sProp 𝕄)) (pairAt k) else iprop(emp)) ∗ RW m κ c 16 k)
        ⊢ iprop((oLoc c ↦[(oR (dv (k.val / 2)) ⟨k.val % 2, Nat.mod_lt _ (by decide)⟩).set]{fullShare} OUT m c) ∗ RWend m κ c k) := by
      unfold RW RWend
      by_cases hk : k.val / 2 = c.val
      · rw [if_pos hk, if_pos hk, if_pos hk]; exact Entails.refl _
      · rw [if_neg hk, if_neg hk, if_neg hk, if_pos k.isLt]
        unfold recvGot recvPay
        iintro ⟨-, Hi, Ha, Hp⟩
        isplitl [Hp]; · iexact Hp
        isplitl [Hi]; · iexact Hi
        iexact Ha
    exact (Entails.of_eq (bigSep_sep' _ _ _).symm).trans ((bigSep_mono fun k _ => hk k).trans (Entails.of_eq (bigSep_sep' _ _ _)))
  rw [hp, ← o_cells] at h1
  iintro ⟨H0, H1, Hr⟩
  iapply h1
  isplitl [H0 H1]
  · isplitl [H0]; · iexact H0
    iexact H1
  · iexact Hr

/-- What the loop holds before the iteration of point `i`; past the last, what it leaves. -/
def At (c : Dev nD) (i : ℕ) : sProp 𝕄 :=
  if i = 0 then PreLoop m κ c else if i < 16 then iprop(Arr m c ∗ State m κ c i) else PostLoop m κ c

theorem At_zero (c : Dev nD) {i : ℕ} (h : i = 0) : At m κ c i
    ⊢ iprop(((aLoc c ↦{fullShare} X m c) ∗ (∃ f : Buf (Elt F) (rLoc c), rLoc c ↦{fullShare} f)
      ∗ semVal ((c : Thread nD τ), SemLoc.dma (stgS 0)) 0 ∗ semVal ((c : Thread nD τ), SemLoc.dma (stgS 1)) 0)
      ∗ (∃ f : Buf (Elt F) (xLoc c), xLoc c ↦{fullShare} f) ∗ levAts L lv ∗ Owes (F := F) c (Osig c 0) ∗ PreRest m κ c) := by
  unfold At PreLoop Arr; rw [if_pos h]
theorem At_pos (c : Dev nD) {i : ℕ} (h : i ≠ 0) (h1 : i < 16) : At m κ c i = iprop(Arr m c ∗ State m κ c i) := by
  unfold At; rw [if_neg h, if_pos h1]
theorem At_end (c : Dev nD) {i : ℕ} (h : 16 ≤ i) : At m κ c i = PostLoop m κ c := by
  unfold At; rw [if_neg (by omega), if_neg (by omega)]
theorem Before_mk (c : Dev nD) {i : ℕ} (h : i = 0) :
    iprop((xLoc c ↦{fullShare} X m c) ∗ levAts L lv ∗ Owes (F := F) c (Osig c 0) ∗ PreRest m κ c) ⊢ Before m κ c i := by
  unfold Before; rw [if_pos h]; exact Entails.refl _
theorem Before_at (c : Dev nD) {i : ℕ} (h : i ≠ 0) : State m κ c i ⊢ Before m κ c i := by
  unfold Before; rw [if_neg h]
theorem After_at (c : Dev nD) {i : ℕ} (h : i < 15) : iprop(Arr m c ∗ After m κ c i) ⊢ At m κ c (i + 1) := by
  rw [At_pos m κ c (Nat.succ_ne_zero _) (by omega)]; unfold After; rw [if_pos h]
theorem After_end (c : Dev nD) {i : ℕ} (h : i = 15) : After m κ c i ⊢ iprop((xLoc c ↦{fullShare} X m c) ∗ levAts L lv ∗ Owes (F := F) c 0 ∗ WIdle m c 0 ∗ WIdle m c 1
    ∗ (cinv m κ (barCell c) ∗ atPos ER (barCell c) 1 ∅ 0)
    ∗ bigSep Finset.univ (SGot m κ c)
    ∗ (oLoc c ↦[(oR c 0).set]{fullShare} OUT m c) ∗ (oLoc c ↦[(oR c 1).set]{fullShare} OUT m c)
    ∗ semVal ((c : Thread nD τ), SemLoc.dma (locS 0)) 0 ∗ semVal ((c : Thread nD τ), SemLoc.dma (locS 1)) 0
    ∗ bigSep Finset.univ (RW m κ c 16)) := by
  unfold After; rw [if_neg (by omega)]; exact Entails.refl _
theorem Arr_mk (c : Dev nD) : iprop((aLoc c ↦{fullShare} X m c) ∗ (∃ f : Buf (Elt F) (rLoc c), rLoc c ↦{fullShare} f)
    ∗ semVal ((c : Thread nD τ), SemLoc.dma (stgS 0)) 0 ∗ semVal ((c : Thread nD τ), SemLoc.dma (stgS 1)) 0) ⊢ Arr m c := Entails.refl _
theorem Arr_open (c : Dev nD) : Arr m c ⊢ iprop((aLoc c ↦{fullShare} X m c) ∗ (∃ f : Buf (Elt F) (rLoc c), rLoc c ↦{fullShare} f)
    ∗ semVal ((c : Thread nD τ), SemLoc.dma (stgS 0)) 0 ∗ semVal ((c : Thread nD τ), SemLoc.dma (stgS 1)) 0) := Entails.refl _

/-- The part of an iteration from the body on. -/
theorem rest_point (c : Dev nD) (t : Fin cfg0.N) (n : ℕ) {Q : PUnit → sProp 𝕄} :
    iprop(Arr m c ∗ Before m κ c t.val) ⊢ iprop((At m κ c (t.val + 1) -∗ WPL c (lb n) (next (t.val + 1)) Q)
      -∗ WPL c (lb n) (.op (.call (Pipeline.kernel cfg0.body) (cfg0.bodyArgs t (cfg0.slots t))) fun _ =>
        if t.val = 15 then .op (cfg0.startOut 1 t) fun _ => .op (cfg0.waitOut 1 t) fun _ => next (t.val + 1) else next (t.val + 1)) Q) := by
  have ht : t.val < 16 := t.isLt
  iintro ⟨Ha, Hb⟩ Hk
  iapply (body_call m κ c t n) $$ Hb
  iintro H
  by_cases h : t.val = 15
  · rw [if_pos h]
    ihave H := (After_end m κ c h) $$ H
    icases H with ⟨Hx, Hl, HO, Hw0, Hw1, Hb, Hs, Ho0, Ho1, Hl0, Hl1, Hr⟩
    ihave Ha := (Arr_open m c) $$ Ha
    icases Ha with ⟨Ha, Hv, Hs0, Hs1⟩
    ihave Ho := (out_join m κ c) $$ [Ho0 Ho1 Hr]
    · isplitl [Ho0]; · iexact Ho0
      isplitl [Ho1]; · iexact Ho1
      iexact Hr
    icases Ho with ⟨Ho, Hr⟩
    iapply (flush_o c t (lb n) (OUT m c)) $$ [Ho Hv Hs1 HO]
    · isplitl [Ho]; · iexact Ho
      isplitl [Hv]; · iexact Hv
      isplitl [Hs1]; · iexact Hs1
      iexact HO
    iintro ⟨Ho, Hv, Hs1, HO⟩
    iapply Hk
    rw [At_end m κ c (by omega)]
    unfold PostLoop PostRest
    isplitl [Ha]; · iexact Ha
    isplitl [Hv]; · iexact Hv
    isplitl [Hs0]; · iexact Hs0
    isplitl [Hs1]; · iexact Hs1
    isplitl [Ho]; · iexact Ho
    isplitl [Hx]; · iexact Hx
    isplitl [HO]; · iexact HO
    isplitl [Hl]; · iexact Hl
    isplitl [Hw0]; · iexact Hw0
    isplitl [Hw1]; · iexact Hw1
    isplitl [Hb]; · iexact Hb
    isplitl [Hs]; · iexact Hs
    isplitl [Hl0]; · iexact Hl0
    isplitl [Hl1]; · iexact Hl1
    iexact Hr
  · rw [if_neg h]
    iapply Hk
    iapply (After_at m κ c (by omega))
    isplitl [Ha]; · iexact Ha
    iexact H

theorem point_wp (c : Dev nD) (t : Fin cfg0.N) (n : ℕ) {Q : PUnit → sProp 𝕄} :
    At m κ c t.val ⊢ iprop((At m κ c (t.val + 1) -∗ WPL c (lb n) (next (t.val + 1)) Q)
      -∗ WPL c (lb n) (cfg0.iter 0 (ad (F := F)) (t.val + 1)) Q) := by
  have ht : t.val < 16 := t.isLt
  rw [iter_point]
  by_cases h : t.val = 0
  · dsimp only
    rw [if_pos h]
    iintro H Hk
    ihave H := (At_zero m κ c h) $$ H
    icases H with ⟨⟨Ha, Hv, Hs0, Hs1⟩, Hx, Hl, HO, Hr⟩
    iapply (fetch_x m c t (lb n) fullShare) $$ [Ha Hx Hs0 HO Hl]
    · isplitl [Ha]; · iexact Ha
      isplitl [Hx]; · iexact Hx
      isplitl [Hs0]; · iexact Hs0
      isplitl [HO]; · iexact HO
      iexact Hl
    iintro ⟨Ha, Hx, Hs0, HO, Hl⟩
    iapply (rest_point m κ c t n) $$ [Ha Hv Hs0 Hs1 Hx Hl HO Hr]
    · isplitl [Ha Hv Hs0 Hs1]
      · iapply (Arr_mk m c)
        isplitl [Ha]; · iexact Ha
        isplitl [Hv]; · iexact Hv
        isplitl [Hs0]; · iexact Hs0
        iexact Hs1
      · iapply (Before_mk m κ c h)
        isplitl [Hx]; · iexact Hx
        isplitl [Hl]; · iexact Hl
        isplitl [HO]; · iexact HO
        iexact Hr
    iexact Hk
  · dsimp only
    rw [if_neg h, At_pos m κ c h ht]
    iintro ⟨Ha, H⟩ Hk
    iapply (rest_point m κ c t n) $$ [Ha H]
    · isplitl [Ha]; · iexact Ha
      iapply (Before_at m κ c h); iexact H
    iexact Hk

/-- A call of the loop runs an iteration. -/
theorem iter_call (c : Dev nD) (n n' : ℕ) (h : n' < n) (ℓ : ℕ) {Q : PUnit → sProp 𝕄} :
    WPL c (lb n') (cfg0.iter 0 (ad (F := F)) ℓ) (fun _ => WPL c (lb n) (.ret ⟨⟩) Q)
      ⊢ WPL c (lb n) (.op (.call (Pipeline.pipe 0) (ad (F := F), ℓ)) fun _ => .ret ⟨⟩) Q := by
  have hp : defs (F := F) Proc.tc (Pipeline.pipe 0) (ad (F := F), ℓ) = cfg0.iter 0 (ad (F := F)) ℓ := Pipeline.defs_tc_pipe pcfgs defs₀ 0 ad ℓ
  rw [← hp]
  iintro H
  iapply (wp_call 𝕍 (c : Thread nD τ) (lb n) Set.univ (Sum.inr n' : 𝕍.V) (fun u hu => by cases hu; exact Sum.Lex.inr h))
  iexact H

/-- The iterations from point `i` on. -/
theorem iters_wp (c : Dev nD) (d i : ℕ) (h : i + d = 16) {Q : PUnit → sProp 𝕄} :
    At m κ c i ⊢ iprop((PostLoop m κ c -∗ |={Set.univ}=> Q ⟨⟩)
      -∗ WPL c (lb d) (cfg0.iter 0 (ad (F := F)) (i + 1)) Q) := by
  induction d generalizing i Q with
  | zero =>
    obtain rfl : i = 16 := h
    rw [At_end m κ c (Nat.le_refl _), iter_idle _ (by omega)]
    iintro H Hk
    unfold next
    rw [if_neg (by omega)]
    iapply (wp_done c (lb 0))
    iapply Hk; iexact H
  | succ d ih =>
    have hi : i < 16 := by omega
    iintro H Hk
    iapply (point_wp m κ c ⟨i, hi⟩ (d + 1)) $$ H
    iintro H
    unfold next
    rw [if_pos (by show i + 1 + 1 < 18; omega)]
    iapply (iter_call c (d + 1) d (Nat.lt_succ_self _) (i + 1 + 1))
    iapply (ih (i + 1) (by omega)) $$ H
    iintro H
    imodintro
    iapply (wp_done c (lb (d + 1)))
    iapply Hk; iexact H

theorem loop_wp (c : Dev nD) {Q : PUnit → sProp 𝕄} :
    PreLoop m κ c ⊢ iprop((PostLoop m κ c -∗ |={Set.univ}=> Q ⟨⟩)
      -∗ WPL c (lb 18) (cfg0.runAt 0 (ad (F := F))) Q) := by
  iintro H Hk
  iapply (Entails.of_eq (show WPL c (lb 18) (.op (.call (Pipeline.pipe 0) (ad (F := F), (0 : ℕ))) fun _ => .ret ⟨⟩) Q
    = WPL c (lb 18) (cfg0.runAt 0 (ad (F := F))) Q from by
      unfold Pipeline.Cfg.runAt; rw [if_neg (by decide), dif_neg (by decide)]))
  iapply (iter_call c 18 17 (by decide) 0)
  rw [iter_idle _ (by omega)]
  unfold next
  rw [if_pos (by decide)]
  iapply (iter_call c 17 16 (by decide) (0 + 1))
  iapply (iters_wp m κ c 16 0 rfl) $$ [H]
  · iapply (Entails.of_eq (show PreLoop m κ c = At m κ c 0 from (if_pos rfl).symm)); iexact H
  iintro H
  imodintro
  iapply (wp_done c (lb 17))
  imodintro
  iapply (wp_done c (lb 18))
  iapply Hk; iexact H

end Cert.KernelProof

end
-- ==== Proof.KernelRegion.lean ====
/-
  A device's way into the region and out of it: the cells it waits on opened, the buffers cut into blocks and dealt to
  the points of the grid; at the end the cells closed and the buffers joined.
-/
module

public import proofs.«01_k».proof.Proof.KernelLoop

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (κ : GSem nD τ sig → ℕ)

/-! ## Families -/

theorem each {I : Type} {Φ Ψ : I → sProp 𝕄} {S : Finset I} (h : ∀ i, Φ i ⊢ Ψ i) : bigSep S Φ ⊢ bigSep S Ψ := bigSep_mono fun i _ => h i
/-- What may be used again and again, given to every member of a family; -/
theorem each_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans ((Entails.of_eq (bigSep_sep' _ _ _).symm).trans (bigSep_mono fun i _ => h i))
/-- every member updated; -/
theorem each_upd {I : Type} [DecidableEq I] {S : Finset I} {R : sProp 𝕄} [BI.Persistent R] {Φ Ψ : I → sProp 𝕄}
    (h : ∀ i, iprop(R ∗ Φ i) ⊢ (|={Set.univ}=> Ψ i : sProp 𝕄)) : iprop(R ∗ bigSep S Φ) ⊢ (|={Set.univ}=> bigSep S Ψ : sProp 𝕄) :=
  (each_with h).trans (bigSep_fupd _ _)
theorem each_pair {I : Type} {S : Finset I} {Φ Ψ : I → sProp 𝕄} : iprop(bigSep S Φ ∗ bigSep S Ψ) ⊢ bigSep S fun i => iprop(Φ i ∗ Ψ i) :=
  Entails.of_eq (bigSep_sep' _ _ _).symm
theorem each_unpair {I : Type} {S : Finset I} {Φ Ψ : I → sProp 𝕄} : (bigSep S fun i => iprop(Φ i ∗ Ψ i)) ⊢ iprop(bigSep S Φ ∗ bigSep S Ψ) :=
  Entails.of_eq (bigSep_sep' _ _ _)
theorem each_elim {I : Type} [DecidableEq I] [Fintype I] {Φ : I → sProp 𝕄} (i : I) : bigSep Finset.univ Φ ⊢ Φ i := bigSep_elim (Finset.mem_univ i)
theorem two (Φ : Fin 2 → sProp 𝕄) : bigSep Finset.univ Φ = iprop(Φ 0 ∗ Φ 1) := bigSep_fin_two Φ
/-- one member taken out. -/
theorem pick_one (c : Dev nD) (Φ : Dev nD → sProp 𝕄) :
    bigSep Finset.univ Φ ⊢ iprop(Φ c ∗ bigSep Finset.univ fun d => if d = c then iprop(emp) else Φ d) := by
  refine (Entails.of_eq (bigSep_univ_at Φ c)).trans (sep_mono_right (Entails.of_eq ?_))
  rw [show (Finset.univ.erase c : Finset (Dev nD)) = Finset.univ.filter (fun d => d ≠ c) by ext d; simp, bigSep_filter]
  exact bigSep_congr fun d _ => by
    by_cases h : d = c
    · rw [if_neg (not_not.mpr h), if_pos h]; rfl
    · rw [if_pos h, if_neg h]

/-! ## The invariants of every cell -/

def Invs : sProp 𝕄 :=
  iprop((bigSep Finset.univ fun d : Dev nD => cinv m κ (barCell d))
    ∗ (bigSep Finset.univ fun x : Dev nD × Fin 16 => cinv m κ (sendCell x.1 x.2))
    ∗ bigSep Finset.univ fun x : Dev nD × Fin 16 => cinv m κ (recvCell x.1 x.2))
instance Invs_persistent : BI.Persistent (Invs (F := F) m κ) := by unfold Invs; infer_instance
theorem inv_bar (d : Dev nD) : Invs (F := F) m κ ⊢ cinv m κ (barCell d) := by
  unfold Invs
  iintro ⟨H, -, -⟩
  iapply (each_elim (Φ := fun d : Dev nD => cinv (F := F) m κ (barCell d)) d); iexact H
theorem inv_send (d : Dev nD) (j : Fin 16) : Invs (F := F) m κ ⊢ cinv m κ (sendCell d j) := by
  unfold Invs
  iintro ⟨-, H, -⟩
  iapply (each_elim (Φ := fun x : Dev nD × Fin 16 => cinv (F := F) m κ (sendCell x.1 x.2)) (d, j)); iexact H
theorem inv_recv (d : Dev nD) (j : Fin 16) : Invs (F := F) m κ ⊢ cinv m κ (recvCell d j) := by
  unfold Invs
  iintro ⟨-, -, H⟩
  iapply (each_elim (Φ := fun x : Dev nD × Fin 16 => cinv (F := F) m κ (recvCell x.1 x.2)) (d, j)); iexact H

/-! ## The cells opened -/

/-- A send cell's position, that its round has begun, and its counter if it is not used. -/
def SA (c : Dev nD) (j : Fin 16) : sProp 𝕄 := if j.val < 14 then atPos ER (sendCell c j) 0 ∅ 0 else iprop(emp)
def SR (c : Dev nD) (j : Fin 16) : sProp 𝕄 := if j.val < 14 then reached ER (sendCell c j) 0 else iprop(emp)
def SV (c : Dev nD) (j : Fin 16) : sProp 𝕄 := if j.val < 14 then iprop(emp) else semVal (sendCell c j) 0
/-- The same of a receive cell. -/
def RA (c : Dev nD) (k : Fin 16) : sProp 𝕄 := if k.val / 2 = c.val then iprop(emp) else atPos ER (recvCell c k) 0 ∅ 0
def RR (c : Dev nD) (k : Fin 16) : sProp 𝕄 := if k.val / 2 = c.val then iprop(emp) else reached ER (recvCell c k) 0
def RV (c : Dev nD) (k : Fin 16) : sProp 𝕄 := if k.val / 2 = c.val then semVal (recvCell c k) 0 else iprop(emp)
instance RR_persistent (c : Dev nD) (k : Fin 16) : BI.Persistent (RR (F := F) c k) := by unfold RR; split <;> infer_instance

theorem open_send (c : Dev nD) (j : Fin 16) : iprop(Invs m κ ∗ openTok ER (sendCell c j) ∗ semVal (sendCell c j) 0)
    ⊢ (|={Set.univ}=> iprop(SA c j ∗ SR c j ∗ SV c j) : sProp 𝕄) := by
  unfold SA SR SV
  by_cases hj : j.val < 14
  · rw [if_pos hj, if_pos hj, if_pos hj]
    iintro ⟨HI, Ht, Hv⟩
    ihave HI := (inv_send m κ c j) $$ HI
    imod (Rounds.cell_open ER (Rd m) (κ := κ (sendCell c j)) (Set.mem_univ _)) $$ [HI Ht Hv] with ⟨Ha, Hr⟩
    · isplitl [HI]; · iexact HI
      isplitl [Ht]; · iexact Ht
      iexact Hv
    imodintro
    isplitl [Ha]; · iexact Ha
    isplitl [Hr]; · iexact Hr
    iempintro
  · rw [if_neg hj, if_neg hj, if_neg hj]
    iintro ⟨-, -, Hv⟩
    imodintro
    isplitr; · iempintro
    isplitr; · iempintro
    iexact Hv
theorem open_recv (c : Dev nD) (k : Fin 16) : iprop(Invs m κ ∗ openTok ER (recvCell c k) ∗ semVal (recvCell c k) 0)
    ⊢ (|={Set.univ}=> iprop(RA c k ∗ RR c k ∗ RV c k) : sProp 𝕄) := by
  unfold RA RR RV
  by_cases hk : k.val / 2 = c.val
  · rw [if_pos hk, if_pos hk, if_pos hk]
    iintro ⟨-, -, Hv⟩
    imodintro
    isplitr; · iempintro
    isplitr; · iempintro
    iexact Hv
  · rw [if_neg hk, if_neg hk, if_neg hk]
    iintro ⟨HI, Ht, Hv⟩
    ihave HI := (inv_recv m κ c k) $$ HI
    imod (Rounds.cell_open ER (Rd m) (κ := κ (recvCell c k)) (Set.mem_univ _)) $$ [HI Ht Hv] with ⟨Ha, Hr⟩
    · isplitl [HI]; · iexact HI
      isplitl [Ht]; · iexact Ht
      iexact Hv
    imodintro
    isplitl [Ha]; · iexact Ha
    isplitl [Hr]; · iexact Hr
    iempintro

/-! ## The cells closed -/

theorem close_send (c : Dev nD) (j : Fin 16) : iprop(Invs m κ ∗ SGot m κ c j ∗ SV c j)
    ⊢ (|={Set.univ}=> iprop(semVal (sendCell c j) 0 ∗ sbLoc c ↦[(sbR j).set]{fullShare} SB m c) : sProp 𝕄) := by
  unfold SGot SV
  by_cases hj : j.val < 14
  · rw [if_pos hj, if_pos hj]
    unfold sendGot
    iintro ⟨-, ⟨HI, Ha, Hb⟩, -⟩
    imod (Rounds.cell_close ER (Rd m) (κ := κ (sendCell c j)) (Set.mem_univ _) (fun h => h) (duties_later m (sendCell c j))) $$ [HI Ha] with Hv
    · isplitl [HI]; · iexact HI
      iexact Ha
    imodintro
    isplitl [Hv]; · iexact Hv
    iexact Hb
  · rw [if_neg hj, if_neg hj]
    iintro ⟨-, Hb, Hv⟩
    imodintro
    isplitl [Hv]; · iexact Hv
    iexact Hb
theorem close_recv (c : Dev nD) (k : Fin 16) : iprop(Invs m κ ∗ RWend m κ c k ∗ RV c k)
    ⊢ (|={Set.univ}=> semVal (recvCell c k) 0 : sProp 𝕄) := by
  unfold RWend RV
  by_cases hk : k.val / 2 = c.val
  · rw [if_pos hk, if_pos hk]
    iintro ⟨-, -, Hv⟩
    imodintro
    iexact Hv
  · rw [if_neg hk, if_neg hk]
    iintro ⟨-, ⟨HI, Ha⟩, -⟩
    imod (Rounds.cell_close ER (Rd m) (κ := κ (recvCell c k)) (Set.mem_univ _) (fun h => h) (duties_later m (recvCell c k))) $$ [HI Ha] with Hv
    · isplitl [HI]; · iexact HI
      iexact Ha
    imodintro
    iexact Hv
theorem close_bar (c : Dev nD) : iprop(cinv m κ (barCell c) ∗ atPos ER (barCell c) 1 ∅ 0)
    ⊢ (|={Set.univ}=> semVal (barCell c) 0 : sProp 𝕄) :=
  Rounds.cell_close ER (Rd m) (κ := κ (barCell c)) (Set.mem_univ _) (fun h => h) (duties_later m (barCell c))

/-! ## A device's share of the launch -/

/-- What device `c` brings to the region. -/
def TPre (c : Dev nD) : sProp 𝕄 :=
  iprop(Invs m κ ∗ (bigSep Finset.univ fun d : Dev nD => reached ER (barCell d) 0) ∗ atPos ER (barCell c) 0 ∅ 0
    ∗ (bigSep Finset.univ fun j : Fin 16 => openTok ER (sendCell c j)) ∗ (bigSep Finset.univ fun k : Fin 16 => openTok ER (recvCell c k))
    ∗ (bigSep Finset.univ fun d : Dev nD => dutyTok ER (barCell d) 0 c)
    ∗ (bigSep Finset.univ fun j : Fin 16 => dutyTok ER (sendCell c j) 0 c)
    ∗ (bigSep Finset.univ fun j : Fin 16 => dutyTok ER (recvCell (dest c j.val) (rix c j.val)) 0 (dest c j.val))
    ∗ cred (tallyAt (barCell c) () 7)
    ∗ (bigSep Finset.univ fun k : Fin 16 => if k.val / 2 = c.val then iprop(emp) else cred (tallyAt (recvCell c k) () N))
    ∗ Owes (F := F) c (Osig c 0)
    ∗ (aLoc c ↦{fullShare} X m c) ∗ (wLoc c ↦{fullShare} W m c) ∗ ∃ f : Buf (Elt F) (rLoc c), rLoc c ↦{fullShare} f)
/-- What it leaves with, beside owing nothing. -/
def Tend (c : Dev nD) : sProp 𝕄 :=
  iprop((aLoc c ↦{fullShare} X m c) ∗ (wLoc c ↦{fullShare} W m c) ∗ (rLoc c ↦{fullShare} OUT m c) ∗ semVal (barCell c) 0)

/-- The region's buffers and semaphores. -/
def Bufs (c : Dev nD) : sProp 𝕄 :=
  iprop((∃ f : Buf (Elt F) (xLoc c), xLoc c ↦{fullShare} f) ∗ (∃ f : Buf (Elt F) (oLoc c), oLoc c ↦{fullShare} f)
    ∗ (∃ f : Buf (Elt F) (stLoc c), stLoc c ↦{fullShare} f) ∗ ∃ f : Buf (Elt F) (sbLoc c), sbLoc c ↦{fullShare} f)
def Sems (c : Dev nD) : sProp 𝕄 :=
  iprop(semVal ((c : Thread nD τ), SemLoc.dma (stgS 0)) 0 ∗ semVal ((c : Thread nD τ), SemLoc.dma (stgS 1)) 0
    ∗ (bigSep Finset.univ fun s : Fin 2 => semVal ((c : Thread nD τ), SemLoc.dma (wS s)) 0)
    ∗ (bigSep Finset.univ fun s : Fin 2 => semVal ((c : Thread nD τ), SemLoc.dma (locS s)) 0)
    ∗ (bigSep Finset.univ fun j : Fin 16 => semVal (sendCell c j) 0) ∗ bigSep Finset.univ fun k : Fin 16 => semVal (recvCell c k) 0)
/-- The counters of the cells nothing uses, kept through the loop. -/
def Kept (c : Dev nD) : sProp 𝕄 := iprop((bigSep Finset.univ (SV (F := F) c)) ∗ bigSep Finset.univ (RV (F := F) c))

/-! ## Dealing -/

theorem lend_all (c : Dev nD) (f : Buf (Elt F) (oLoc c)) :
    (oLoc c ↦{fullShare} f : sProp 𝕄) ⊢ bigSep Finset.univ fun d : Dev nD => lend (F := F) d c := by
  rw [o_blocks, bigSep_univ_prod]
  refine each fun d => ?_
  rw [bigSep_fin_two]
  show iprop((oLoc c ↦[(oR d 0).set]{fullShare} f) ∗ (oLoc c ↦[(oR d 1).set]{fullShare} f)) ⊢ lend d c
  unfold lend
  iintro ⟨H0, H1⟩
  isplitl [H0]
  · iexists _; iexact H0
  · iexists _; iexact H1
theorem sb_all (c : Dev nD) (f : Buf (Elt F) (sbLoc c)) : (sbLoc c ↦{fullShare} f : sProp 𝕄) ⊢ bigSep Finset.univ (sbAny (F := F) c) := by
  rw [sb_blocks]
  refine each fun k => ?_
  unfold sbAny
  iintro H; iexists _; iexact H
theorem st_all (c : Dev nD) (f : Buf (Elt F) (stLoc c)) : (stLoc c ↦{fullShare} f : sProp 𝕄)
    ⊢ iprop((∃ g : Buf (Elt F) (stLoc c), stLoc c ↦[(stR 0).set]{fullShare} g) ∗ ∃ g : Buf (Elt F) (stLoc c), stLoc c ↦[(stR 1).set]{fullShare} g) := by
  rw [st_blocks, two]
  iintro ⟨H0, H1⟩
  isplitl [H0]
  · iexists _; iexact H0
  · iexists _; iexact H1
theorem w_halves (c : Dev nD) : (wLoc c ↦{fullShare} W m c : sProp 𝕄) ⊣⊢ iprop((wLoc c ↦{hs 0} W m c) ∗ wLoc c ↦{hs 1} W m c) :=
  pointsTo_share (PosShare.mem_left_op_right fullShare)

theorem range_dev (Φ : ℕ → sProp 𝕄) : bigSep (Finset.Ico 0 8) Φ = bigSep Finset.univ fun d : Dev nD => Φ d.val := by
  rw [show Finset.Ico 0 8 = (Finset.univ : Finset (Fin 8)).map Fin.valEmbedding by decide, bigSep_map]; rfl

theorem dv_self (d : Dev nD) : dv d.val = d := Fin.ext (Nat.mod_eq_of_lt d.isLt)

theorem reached_recv (c d : Dev nD) (i : ℕ) (h : d ≠ c) : bigSep Finset.univ (RR (F := F) c) ⊢ reached ER (recvCell c (rix d i)) 0 := by
  refine (each_elim (rix d i)).trans ?_
  unfold RR
  have hd : d.val < 8 := d.isLt
  rw [if_neg (fun e => h (Fin.ext (by
    have e : (2 * d.val + i % 2) / 2 = c.val := e
    omega)))]

theorem deal_sig (c : Dev nD) (d : Dev nD) :
    iprop((Invs m κ ∗ (bigSep Finset.univ fun d : Dev nD => reached ER (barCell d) 0) ∗ bigSep Finset.univ (RR (F := F) c))
        ∗ dutyTok ER (barCell d) 0 c ∗ if d = c then iprop(emp) else lend (F := F) d c)
      ⊢ sigTok m κ c d.val := by
  unfold sigTok
  rw [dv_self]
  by_cases h : d = c
  · rw [if_pos h, if_pos h]
    iintro -; iempintro
  · rw [if_neg h, if_neg h]
    unfold barPay
    iintro ⟨⟨HI, Hb, #HR⟩, Ht, Hl⟩
    isplitl [HI]; · iapply (inv_bar m κ d); iexact HI
    isplitl [Ht]; · iexact Ht
    isplitl [Hl]
    · isplitl [Hl]; · iexact Hl
      isplitr
      · iapply (reached_recv c d 0 h); iexact HR
      · iapply (reached_recv c d 1 h); iexact HR
    iapply (each_elim (Φ := fun d : Dev nD => (reached ER (barCell d) 0 : sProp 𝕄)) d); iexact Hb

theorem deal_slot (c : Dev nD) (j : Fin 16) :
    iprop(Invs m κ ∗ sbAny c j ∗ dutyTok ER (sendCell c j) 0 c ∗ dutyTok ER (recvCell (dest c j.val) (rix c j.val)) 0 (dest c j.val) ∗ SR c j)
      ⊢ Slot0 m κ c j := by
  unfold Slot0 SR
  by_cases hj : j.val < 14
  · rw [if_pos hj, if_pos hj]
    unfold copyTok0
    iintro ⟨#HI, Hs, Ht1, Ht2, Hr⟩
    isplitl [Hs]; · iexact Hs
    isplitr; · iapply (inv_send m κ c j); iexact HI
    isplitr; · iapply (inv_recv m κ (dest c j.val) (rix c j.val)); iexact HI
    isplitl [Ht1]; · iexact Ht1
    isplitl [Hr]; · iexact Hr
    iexact Ht2
  · rw [if_neg hj, if_neg hj]
    iintro ⟨-, Hs, -⟩
    isplitl [Hs]; · iexact Hs
    iempintro

theorem deal_sent (c : Dev nD) (j : Fin 16) : iprop(Invs m κ ∗ SA c j)
    ⊢ (if j.val < 14 then iprop(cinv m κ (sendCell c j) ∗ atPos ER (sendCell c j) 0 ∅ 0) else iprop(emp) : sProp 𝕄) := by
  unfold SA
  by_cases hj : j.val < 14
  · rw [if_pos hj, if_pos hj]
    iintro ⟨HI, Ha⟩
    isplitl [HI]; · iapply (inv_send m κ c j); iexact HI
    iexact Ha
  · rw [if_neg hj, if_neg hj]
    iintro -; iempintro

theorem deal_recv (c : Dev nD) (k : Fin 16) :
    iprop(Invs m κ ∗ RA c k ∗ if k.val / 2 = c.val then iprop(emp) else cred (tallyAt (recvCell c k) () N)) ⊢ RW m κ c 0 k := by
  unfold RA RW
  by_cases hk : k.val / 2 = c.val
  · rw [if_pos hk, if_pos hk, if_pos hk]
    iintro -; iempintro
  · rw [if_neg hk, if_neg hk, if_neg hk, if_neg (Nat.not_lt_zero _)]
    unfold recvTok
    iintro ⟨HI, Ha, Hc⟩
    isplitl [HI]; · iapply (inv_recv m κ c k); iexact HI
    isplitl [Hc]; · iexact Hc
    iexact Ha

/-! ## In and out -/

theorem enter (c : Dev nD) : iprop(TPre m κ c ∗ Bufs c ∗ Sems c ∗ levAts L lv)
    ⊢ (|={Set.univ}=> iprop(PreLoop m κ c ∗ Kept c ∗ Invs m κ) : sProp 𝕄) := by
  unfold TPre Bufs Sems
  rw [two, two]
  iintro ⟨⟨#HI, #Hbr, Hba, Hso, Hro, Htb, Hts, Htr, Hcb, Hcr, HO, Ha, Hw, Hr⟩, ⟨Hx, ⟨%fo, Ho⟩, ⟨%fs, Hst⟩, ⟨%fb, Hsb⟩⟩,
    ⟨Hg0, Hg1, ⟨Hw0, Hw1⟩, ⟨Hl0, Hl1⟩, Hsv, Hrv⟩, Hlev⟩
  imod ((sep_mono_right each_pair).trans (each_upd (open_send m κ c))) $$ [Hso Hsv] with HS
  · isplitr; · iexact HI
    isplitl [Hso]; · iexact Hso
    iexact Hsv
  imod ((sep_mono_right each_pair).trans (each_upd (open_recv m κ c))) $$ [Hro Hrv] with HR
  · isplitr; · iexact HI
    isplitl [Hro]; · iexact Hro
    iexact Hrv
  ihave HS := (each_unpair.trans (sep_mono_right each_unpair)) $$ HS
  icases HS with ⟨HSA, HSR, HSV⟩
  ihave HR := (each_unpair.trans (sep_mono_right each_unpair)) $$ HR
  icases HR with ⟨HRA, #HRR, HRV⟩
  ihave Ho := ((lend_all c fo).trans (pick_one c fun d => lend (F := F) d c)) $$ Ho
  icases Ho with ⟨Hown, Ho⟩
  ihave Hst := (st_all c fs) $$ Hst
  icases Hst with ⟨Hst0, Hst1⟩
  ihave Hw := (w_halves m c).1 $$ Hw
  icases Hw with ⟨Hwa, Hwb⟩
  imodintro
  isplitr [HSV HRV]
  · unfold PreLoop PreRest Arr WIdle Epi
    rw [range_dev]
    isplitl [Ha Hr Hg0 Hg1]
    · isplitl [Ha]; · iexact Ha
      isplitl [Hr]; · iexact Hr
      isplitl [Hg0]; · iexact Hg0
      iexact Hg1
    isplitl [Hx]; · iexact Hx
    isplitl [Hlev]; · iexact Hlev
    isplitl [HO]; · iexact HO
    isplitl [Hst0 Hw0 Hwa]
    · isplitl [Hst0]; · iexact Hst0
      isplitl [Hw0]; · iexact Hw0
      iexact Hwa
    isplitl [Hst1 Hw1 Hwb]
    · isplitl [Hst1]; · iexact Hst1
      isplitl [Hw1]; · iexact Hw1
      iexact Hwb
    isplitl [Htb Ho]
    · iapply ((sep_mono_right each_pair).trans (each_with (deal_sig m κ c)))
      isplitr
      · isplitr; · iexact HI
        isplitr; · iexact Hbr
        iexact HRR
      isplitl [Htb]; · iexact Htb
      iexact Ho
    isplitl [Hcb Hba]
    · isplitr; · iapply (inv_bar m κ c); iexact HI
      isplitl [Hcb]; · iexact Hcb
      iexact Hba
    isplitl [Hsb Hts Htr HSR]
    · iapply ((sep_mono_right ((sep_mono_right ((sep_mono_right each_pair).trans each_pair)).trans each_pair)).trans (each_with (deal_slot m κ c)))
      isplitr; · iexact HI
      isplitl [Hsb]; · iapply (sb_all c fb); iexact Hsb
      isplitl [Hts]; · iexact Hts
      isplitl [Htr]; · iexact Htr
      iexact HSR
    ihave Hown := (show lend (F := F) c c ⊢ iprop((∃ f : Buf (Elt F) (oLoc c), oLoc c ↦[(oR c 0).set]{fullShare} f)
      ∗ (∃ f : Buf (Elt F) (oLoc c), oLoc c ↦[(oR c 1).set]{fullShare} f)) from Entails.refl _) $$ Hown
    icases Hown with ⟨Ho0, Ho1⟩
    isplitl [Ho0]; · iexact Ho0
    isplitl [Ho1]; · iexact Ho1
    isplitl [Hl0]; · iexact Hl0
    isplitl [Hl1]; · iexact Hl1
    isplitl [HSA]
    · iapply (each_with (deal_sent m κ c))
      isplitr; · iexact HI
      iexact HSA
    · iapply ((sep_mono_right each_pair).trans (each_with (deal_recv m κ c)))
      isplitr; · iexact HI
      isplitl [HRA]; · iexact HRA
      iexact Hcr
  · isplitr []
    · unfold Kept
      isplitl [HSV]; · iexact HSV
      iexact HRV
    · iexact HI

theorem leave (c : Dev nD) : iprop(PostLoop m κ c ∗ Kept c ∗ Invs m κ)
    ⊢ (|={Set.univ}=> iprop(Bufs c ∗ Sems c ∗ Tend m c ∗ Owes (F := F) c 0) : sProp 𝕄) := by
  unfold PostLoop PostRest WIdle Kept
  iintro ⟨⟨Ha, Hr, Hg0, Hg1, Ho, Hx, HO, -, ⟨Hst0, Hw0, Hwa⟩, ⟨Hst1, Hw1, Hwb⟩, Hb, HS, Hl0, Hl1, HR⟩, ⟨HSV, HRV⟩, #HI⟩
  imod (close_bar m κ c) $$ Hb with Hb
  imod ((sep_mono_right each_pair).trans (each_upd (close_send m κ c))) $$ [HS HSV] with HS
  · isplitr; · iexact HI
    isplitl [HS]; · iexact HS
    iexact HSV
  imod ((sep_mono_right each_pair).trans (each_upd (close_recv m κ c))) $$ [HR HRV] with HR
  · isplitr; · iexact HI
    isplitl [HR]; · iexact HR
    iexact HRV
  ihave HS := each_unpair $$ HS
  icases HS with ⟨HS, Hsb⟩
  imodintro
  unfold Bufs Sems Tend
  rw [two, two]
  isplitl [Hx Ho Hst0 Hst1 Hsb]
  · isplitl [Hx]; · iexists _; iexact Hx
    isplitl [Ho]; · iexists _; iexact Ho
    isplitl [Hst0 Hst1]
    · icases Hst0 with ⟨%f0, Hst0⟩
      iapply (st_join c f0)
      rw [two]
      isplitl [Hst0]; · iexists _; iexact Hst0
      iexact Hst1
    · iexists _
      iapply (Entails.of_eq (sb_blocks c (SB m c)).symm); iexact Hsb
  isplitl [Hg0 Hg1 Hw0 Hw1 Hl0 Hl1 HS HR]
  · isplitl [Hg0]; · iexact Hg0
    isplitl [Hg1]; · iexact Hg1
    isplitl [Hw0 Hw1]
    · isplitl [Hw0]; · iexact Hw0
      iexact Hw1
    isplitl [Hl0 Hl1]
    · isplitl [Hl0]; · iexact Hl0
      iexact Hl1
    isplitl [HS]; · iexact HS
    iexact HR
  isplitr [HO]
  · isplitl [Ha]; · iexact Ha
    isplitl [Hwa Hwb]
    · iapply (w_halves m c).2
      isplitl [Hwa]; · iexact Hwa
      iexact Hwb
    isplitl [Hr]; · iexact Hr
    iexact Hb
  iexact HO

end Cert.KernelProof

end
-- ==== Proof.KernelSegment.lean ====
/-
  The kernel's region, from what a device brings to it to what it leaves with.
-/
module

public import proofs.«01_k».proof.Proof.KernelRegion

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (κ : GSem nD τ sig → ℕ)

theorem assoc_eq (P Q R : sProp 𝕄) : iprop((P ∗ Q) ∗ R) = iprop(P ∗ Q ∗ R) := equiv_iff.mp ⟨BI.sep_assoc, BI.sep_assoc'⟩

/-! ## The region's buffers and semaphores -/

theorem scopedBufs_eq (c : Dev nD) : (scopedBufs (c : Thread nD τ) : sProp 𝕄) = Bufs c := by
  have h := Pipeline.scopedBufs_split (Ix := Unit) (Val := Elt F) (Name := ℕ) (U := UU) (Lvl := ℕ) (nD := nD) (τ := τ) cfgs (0 : Fin 1)
    winFacts0.stage_scoped winFacts0.stage_inj stage_whole0 c
  refine h.trans ?_
  have h1 : (Pipeline.Dat.staging (Ix := Unit) (Val := Elt F) (Name := ℕ) (U := UU) (Lvl := ℕ) (nD := nD) (τ := τ) (cfgs 0) c : sProp 𝕄)
      = iprop((∃ f : Buf (Elt F) (xLoc c), xLoc c ↦{fullShare} f) ∗ ∃ f : Buf (Elt F) (oLoc c), oLoc c ↦{fullShare} f) := by
    unfold Pipeline.Dat.staging
    refine (bigSep_W0 _).trans (congrArg₂ _ ?_ ?_)
    · refine (bigSep_univ_eq_bigSepL [(0 : Fin 1)] (by decide) (by decide) _).trans ?_
      exact Memref.IsWhole.exists_owns_eq (stage_whole0 0 0) fullShare
    · refine (bigSep_univ_eq_bigSepL [(0 : Fin 1)] (by decide) (by decide) _).trans ?_
      exact Memref.IsWhole.exists_owns_eq (stage_whole0 1 0) fullShare
  have h2 := scopedRest0_eq (Ix := Unit) (Val := Elt F) (Name := ℕ) (U := UU) (Lvl := ℕ) c
  rw [h1]
  refine (congrArg _ h2).trans ?_
  unfold Bufs
  exact assoc_eq _ _ _

/-- The kernel's own semaphores. -/
def osem : (Fin 2 ⊕ Fin 2) ⊕ (Fin 16 ⊕ Fin 16) → SemLoc sig
  | .inl (.inl s) => .dma (wS s)
  | .inl (.inr s) => .dma (locS s)
  | .inr (.inl j) => .dma (sendS j)
  | .inr (.inr k) => .dma (recvS k)
theorem ownFacts : Pipeline.OwnSemFacts spec0 osem := by decide +kernel

/-- The scoped semaphores nothing names. -/
def Idle (c : Dev nD) : sProp 𝕄 :=
  Pipeline.idleSems0 (Ix := Unit) (Val := Elt F) (Name := ℕ) (U := UU) (Lvl := ℕ) (nD := nD) (τ := τ) cfgs cellOf_inj 0 ownFacts c

theorem scopedSems_eq (c : Dev nD) : (scopedSems0 (c : Thread nD τ) : sProp 𝕄) = iprop(Sems c ∗ Idle c) := by
  have h := Pipeline.scopedSems0_split (Ix := Unit) (Val := Elt F) (Name := ℕ) (U := UU) (Lvl := ℕ) (nD := nD) (τ := τ) cfgs cellOf_inj (0 : Fin 1)
    winFacts0.to₀ ownFacts c
  refine h.trans (congrArg (fun P : sProp 𝕄 => iprop(P ∗ Idle c)) ?_)
  unfold Sems Pipeline.ownSems0
  rw [bigSep_univ_sum, bigSep_univ_sum, bigSep_univ_sum]
  have h1 : (Pipeline.cellsSems0 (Ix := Unit) (Val := Elt F) (Name := ℕ) (U := UU) (Lvl := ℕ) (nD := nD) (τ := τ) cfgs 0 c : sProp 𝕄)
      = iprop(semVal ((c : Thread nD τ), SemLoc.dma (stgS 0)) 0 ∗ semVal ((c : Thread nD τ), SemLoc.dma (stgS 1)) 0) := by
    refine (bigSep_W0 _).trans (congrArg₂ _ ?_ ?_)
    · exact (bigSep_univ_eq_bigSepL [(0 : Fin 1)] (by decide) (by decide) _).trans rfl
    · exact (bigSep_univ_eq_bigSepL [(0 : Fin 1)] (by decide) (by decide) _).trans rfl
  rw [h1]
  refine (assoc_eq _ _ _).trans (congrArg _ (congrArg _ ?_))
  exact assoc_eq _ _ _

/-! ## The region -/

/-- The thread's state before the region and after. -/
def pre (c : Dev nD) : sProp 𝕄 := iprop(∃ κ : GSem nD τ sig → ℕ, TPre m κ c)
def post (c : Dev nD) : sProp 𝕄 := iprop(Tend m c ∗ Owes (F := F) c 0)

/-- The region's call. -/
def call : Prog (EffL F) PUnit := Prog.lift (.customCall (Pipeline.entry 0) ())

theorem pref_none (c : Dev nD) : iprop(emp) ⊢ (Pipeline.prefHeld (Ix := Unit) (Val := Elt F) (Name := ℕ) (U := UU) (Lvl := ℕ) (nD := nD) (τ := τ) (pcfgs (F := F) 0).pre c
    (fun k : Fin 0 => k.elim0) (Pipeline.Prefetch.Contents.none) : sProp 𝕄) := by
  unfold Pipeline.prefHeld
  exact Entails.of_eq (bigSep_empty (Φ := _)).symm

theorem prun_wp (c : Dev nD) {Q : PUnit → sProp 𝕄} :
    WPL c (lb 18) (cfg0.runAt 0 (ad (F := F))) Q ⊢ WPL c (lb 18) (Pipeline.prun (pcfgs (F := F)) 0) Q := by
  unfold Pipeline.prun
  iintro H
  iapply (Pipeline.Prefetch.wp_readAll 𝕍 (lb 18) Set.univ (pcfgs (F := F) 0).pre c (fun k : Fin 0 => k.elim0) Pipeline.Prefetch.Contents.none _) $$ []
  · iapply (pref_none c); iempintro
  iintro -
  iapply (wp_assume 𝕍 _ (lb 18) Set.univ (ad (F := F)).2)
  iexact H

theorem region_wp (c : Dev nD) {β : Type} (k : PUnit → Prog (EffL F) β) (K : β → sProp 𝕄) :
    iprop((iprop(boundary (c : Thread nD τ) ∗ post m c) -∗ WPL c none (k ⟨⟩) K) ∗ boundary (c : Thread nD τ) ∗ pre m c ∗ levAts L lv)
      ⊢ WPL c none (call (F := F) >>= k) K := by
  unfold boundary pre post
  rw [scopedBufs_eq, scopedSems_eq, show call (F := F) >>= k = .op (.customCall (Pipeline.entry 0) ()) k from rfl]
  iintro ⟨Hk, ⟨Hbufs, ⟨Hsems, Hidle⟩, Hop⟩, ⟨%κ, HT⟩, Hlev⟩
  iapply (wp_customCall 𝕍 (c : Thread nD τ) none Set.univ (ℓ := Pipeline.entry 0) (a := ()) (k := k) (Q := K) (Sum.inr 18 : 𝕍.V) (fun u hu => nomatch hu)) $$ [Hbufs]
  · rw [scopedBufs_eq]; iexact Hbufs
  iintro Hbufs
  iapply (Entails.of_eq (show WPL c (lb 18) (Pipeline.prun (pcfgs (F := F)) 0)
      (fun r => kernelExitSpec (c : Thread nD τ) fun _ => WPL c none (k r) K) = _ from rfl))
  iapply (prun_wp c)
  iapply fupd_wp
  imod (enter m κ c) $$ [HT Hbufs Hsems Hlev] with ⟨HP, HK, HI⟩
  · isplitl [HT]; · iexact HT
    isplitl [Hbufs]; · iapply (Entails.of_eq (scopedBufs_eq c)); iexact Hbufs
    isplitl [Hsems]; · iexact Hsems
    iexact Hlev
  imodintro
  iapply (loop_wp m κ c) $$ HP
  iintro HP
  imod (leave m κ c) $$ [HP HK HI] with ⟨Hbufs, Hsems, HT, HO⟩
  · isplitl [HP]; · iexact HP
    isplitl [HK]; · iexact HK
    iexact HI
  imodintro
  rw [kernelExitSpec_apply, scopedBufs_eq, scopedSems_eq]
  isplitl [Hsems Hidle]
  · isplitl [Hsems]; · iexact Hsems
    iexact Hidle
  iintro Hss
  isplitl [Hbufs]; · iexact Hbufs
  iintro Hbufs
  iapply Hk
  isplitl [Hbufs Hss Hop]
  · isplitl [Hbufs]; · iexact Hbufs
    isplitl [Hss]; · iexact Hss
    iexact Hop
  isplitl [HT]; · iexact HT
  iexact HO

/-- The region as the program's one segment. -/
def seg : Pipeline.HostSeg (Name := ℕ) (U := UU) (pcfgs (F := F)) defs₀ 𝒱₀ L lv where
  prog := call
  pre := pre m
  post := post m
  run c := region_wp m c

end Cert.KernelProof

end
-- ==== Proof.KernelLaunch.lean ====
/-
  The launch: the cells of the exchange, the duties' tokens and the receive credits dealt to the devices; then the whole
  program's run.
-/
module

public import proofs.«01_k».proof.Proof.KernelSegment

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (ρ : Dev nD → PrngReg)

/-! ## The cells -/

def barE : Dev nD ↪ GSem nD τ sig := ⟨barCell, fun a b h => by
  have h1 := congrArg (fun g : GSem nD τ sig => g.1.1) h
  exact h1⟩
def sendE : Dev nD × Fin 16 ↪ GSem nD τ sig := ⟨fun x => sendCell x.1 x.2, fun a b h => by
  have h1 : a.1 = b.1 := congrArg (fun g : GSem nD τ sig => g.1.1) h
  have h2 : sendS a.2 = sendS b.2 := SemLoc.dma.inj (congrArg Prod.snd h)
  have h3 : 6 + a.2.val = 6 + b.2.val := congrArg Fin.val h2
  exact Prod.ext h1 (Fin.ext (by omega))⟩
def recvE : Dev nD × Fin 16 ↪ GSem nD τ sig := ⟨fun x => recvCell x.1 x.2, fun a b h => by
  have h1 : a.1 = b.1 := congrArg (fun g : GSem nD τ sig => g.1.1) h
  have h2 : recvS a.2 = recvS b.2 := SemLoc.dma.inj (congrArg Prod.snd h)
  have h3 : 22 + a.2.val = 22 + b.2.val := congrArg Fin.val h2
  exact Prod.ext h1 (Fin.ext (by omega))⟩

theorem bar_ne_dma (c d : Dev nD) (q : DmaSem sig) : barCell c ≠ ((d : Thread nD τ), SemLoc.dma q) := fun h => by
  have := congrArg Prod.snd h
  cases this
theorem send_ne_recv (c d : Dev nD) (j k : Fin 16) : sendCell c j ≠ recvCell d k := fun h => by
  have h2 : sendS j = recvS k := SemLoc.dma.inj (congrArg Prod.snd h)
  have h3 : 6 + j.val = 22 + k.val := congrArg Fin.val h2
  have := j.isLt
  omega

/-- The barrier's cells, live from the start. -/
def barCells : Finset (GSem nD τ sig) := Finset.univ.map barE
def sendCells : Finset (GSem nD τ sig) := Finset.univ.map sendE
def recvCells : Finset (GSem nD τ sig) := Finset.univ.map recvE

theorem send_recv_disjoint : Disjoint sendCells recvCells := by
  unfold sendCells recvCells
  rw [Finset.disjoint_left]
  intro g h1 h2
  obtain ⟨a, -, rfl⟩ := Finset.mem_map.mp h1
  obtain ⟨b, -, hb⟩ := Finset.mem_map.mp h2
  exact send_ne_recv a.1 b.1 a.2 b.2 hb.symm
theorem bar_disjoint : Disjoint barCells (sendCells ∪ recvCells) := by
  unfold barCells sendCells recvCells
  rw [Finset.disjoint_left]
  intro g h1 h2
  obtain ⟨a, -, rfl⟩ := Finset.mem_map.mp h1
  rcases Finset.mem_union.mp h2 with h | h
  · obtain ⟨b, -, hb⟩ := Finset.mem_map.mp h; exact bar_ne_dma a b.1 _ hb.symm
  · obtain ⟨b, -, hb⟩ := Finset.mem_map.mp h; exact bar_ne_dma a b.1 _ hb.symm

/-- The copy the point `j` of `c` sends arrives at a cell of its own. -/
theorem arrive_inj : Function.Injective (fun x : Dev nD × Fin 16 => (dest x.1 x.2.val, rix x.1 x.2.val)) := fun a b h => by
  have h1 : (a.1.val + a.2.val / 2 + 1) % 8 = (b.1.val + b.2.val / 2 + 1) % 8 := congrArg (fun y : Dev nD × Fin 16 => y.1.val) h
  have h2 : 2 * a.1.val + a.2.val % 2 = 2 * b.1.val + b.2.val % 2 := congrArg (fun y : Dev nD × Fin 16 => y.2.val) h
  have ha : a.1.val < 8 := a.1.isLt
  have hb : b.1.val < 8 := b.1.isLt
  have ha' := a.2.isLt
  have hb' := b.2.isLt
  exact Prod.ext (Fin.ext (by omega)) (Fin.ext (by omega))

/-- Every device's duties: a signal to each barrier cell, the sends and the arrivals of its own copies. -/
abbrev Duty : Type := Dev nD × (Dev nD ⊕ (Fin 16 ⊕ Fin 16))
def duty : Duty → GSem nD τ sig × ℕ × Dev nD
  | (c, .inl d) => (barCell d, 0, c)
  | (c, .inr (.inl j)) => (sendCell c j, 0, c)
  | (c, .inr (.inr j)) => (recvCell (dest c j.val) (rix c j.val), 0, dest c j.val)
theorem duty_inj : Function.Injective duty := by
  rintro ⟨c, d | j | j⟩ ⟨c', d' | j' | j'⟩ h
  · have h1 : d = d' := barE.injective (congrArg Prod.fst h)
    have h2 : c = c' := congrArg (fun x => x.2.2) h
    rw [h1, h2]
  · exact absurd (congrArg Prod.fst h) (bar_ne_dma _ _ _)
  · exact absurd (congrArg Prod.fst h) (bar_ne_dma _ _ _)
  · exact absurd (congrArg Prod.fst h).symm (bar_ne_dma _ _ _)
  · have h1 : (c, j) = (c', j') := sendE.injective (congrArg Prod.fst h)
    rw [(Prod.mk.inj h1).1, (Prod.mk.inj h1).2]
  · exact absurd (congrArg Prod.fst h) (send_ne_recv _ _ _ _)
  · exact absurd (congrArg Prod.fst h).symm (bar_ne_dma _ _ _)
  · exact absurd (congrArg Prod.fst h).symm (send_ne_recv _ _ _ _)
  · have h1 : (dest c j.val, rix c j.val) = (dest c' j'.val, rix c' j'.val) := recvE.injective (congrArg Prod.fst h)
    have h2 : (c, j) = (c', j') := arrive_inj h1
    rw [(Prod.mk.inj h2).1, (Prod.mk.inj h2).2]
def duties : Finset (GSem nD τ sig × ℕ × Dev nD) := Finset.univ.map ⟨duty, duty_inj⟩

/-- Every cell's fact is a fact of each kind of cell. -/
theorem by_kind (Φ : GSem nD τ sig → sProp 𝕄) :
    bigSep (barCells ∪ (sendCells ∪ recvCells)) Φ ⊢ iprop((bigSep Finset.univ fun d : Dev nD => Φ (barCell d))
      ∗ (bigSep Finset.univ fun x : Dev nD × Fin 16 => Φ (sendCell x.1 x.2)) ∗ bigSep Finset.univ fun x : Dev nD × Fin 16 => Φ (recvCell x.1 x.2)) := by
  rw [bigSep_union bar_disjoint, bigSep_union send_recv_disjoint]
  unfold barCells sendCells recvCells
  rw [bigSep_map, bigSep_map, bigSep_map]
  exact Entails.refl _
theorem bar_all (Φ : GSem nD τ sig → sProp 𝕄) : bigSep barCells Φ = bigSep Finset.univ fun d : Dev nD => Φ (barCell d) := by
  unfold barCells
  rw [bigSep_map]
  rfl
theorem dma_each (Φ : GSem nD τ sig → sProp 𝕄) :
    bigSep (sendCells ∪ recvCells) Φ ⊢ bigSep Finset.univ fun c : Dev nD => iprop((bigSep Finset.univ fun j : Fin 16 => Φ (sendCell c j))
      ∗ bigSep Finset.univ fun k : Fin 16 => Φ (recvCell c k)) := by
  rw [bigSep_union send_recv_disjoint]
  unfold sendCells recvCells
  rw [bigSep_map, bigSep_map, bigSep_univ_prod, bigSep_univ_prod]
  exact each_pair

/-- The tokens of the duties device `c` pays. -/
def toks (c : Dev nD) : sProp 𝕄 :=
  iprop((bigSep Finset.univ fun d : Dev nD => dutyTok ER (barCell d) 0 c)
    ∗ (bigSep Finset.univ fun j : Fin 16 => dutyTok ER (sendCell c j) 0 c)
    ∗ (bigSep Finset.univ fun j : Fin 16 => dutyTok ER (recvCell (dest c j.val) (rix c j.val)) 0 (dest c j.val)))
theorem toks_each : bigSep duties (fun x => (dutyTok ER x.1 x.2.1 x.2.2 : sProp 𝕄)) ⊢ bigSep Finset.univ (toks (F := F)) := by
  unfold duties
  rw [bigSep_map, bigSep_univ_prod]
  refine each fun c => ?_
  rw [bigSep_univ_sum, bigSep_univ_sum]
  exact Entails.refl _

/-! ## The launch credits -/

theorem tally_sum (g : GSem nD τ sig) (s : Finset ℕ) (f : ℕ → CellTallies nD τ sig Unit) : (∑ j ∈ s, f j) g () = ∑ j ∈ s, f j g () := by
  rw [Finset.sum_apply, Finsupp.finset_sum_apply]

theorem owed_bar (d c : Dev nD) : O₀ d (barCell c) () = ∑ n ∈ Finset.Ico 0 8, if dv n = d then 0 else if dv n = c then 1 else 0 := by
  unfold O₀ Osig Orem
  rw [Pi.add_apply, Finsupp.add_apply, tally_sum, tally_sum, Finset.sum_eq_zero, Nat.zero_add]
  · refine Finset.sum_congr rfl fun n _ => ?_
    unfold obar
    by_cases h : dv n = d
    · rw [if_pos h, if_pos h]; rfl
    · rw [if_neg h, if_neg h, tallyAt_apply]
      refine if_congr ⟨fun h' => (barE.injective h'.1).symm, fun h' => ⟨congrArg barCell h'.symm, rfl⟩⟩ rfl rfl
  · intro j _
    rw [tallyAt_apply, if_neg fun h => bar_ne_dma _ _ _ h.1]
theorem owed_recv (d c : Dev nD) (k : Fin 16) :
    O₀ d (recvCell c k) () = ∑ j ∈ Finset.Ico 0 14, if dest d j = c ∧ rix d j = k then N else 0 := by
  unfold O₀ Osig Orem
  rw [Pi.add_apply, Finsupp.add_apply, tally_sum, tally_sum]
  have h0 : (∑ n ∈ Finset.Ico 0 8, obar d n (recvCell c k) ()) = 0 := Finset.sum_eq_zero fun n _ => by
    unfold obar
    by_cases h : dv n = d
    · rw [if_pos h]; rfl
    · rw [if_neg h, tallyAt_apply, if_neg fun h' => bar_ne_dma _ _ _ h'.1.symm]
  rw [h0, Nat.add_zero]
  refine Finset.sum_congr rfl fun j _ => ?_
  rw [tallyAt_apply]
  refine if_congr ⟨fun h => ?_, fun h => ⟨by rw [h.1, h.2], rfl⟩⟩ rfl rfl
  have h1 : (c, k) = (dest d j, rix d j) := recvE.injective h.1
  exact ⟨(Prod.mk.inj h1).1.symm, (Prod.mk.inj h1).2.symm⟩

theorem bar_count : ∀ c : Dev nD, (∑ d : Dev nD, ∑ n ∈ Finset.Ico 0 8, if dv n = d then 0 else if dv n = c then 1 else 0) = 7 := by
  decide +kernel
theorem recv_count : ∀ (c : Dev nD) (k : Fin 16), k.val / 2 ≠ c.val →
    (∑ d : Dev nD, ∑ j ∈ Finset.Ico 0 14, if dest d j = c ∧ rix d j = k then 1 else 0) = 1 := by
  decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_count]
theorem launch_recv (c : Dev nD) (k : Fin 16) (h : k.val / 2 ≠ c.val) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k]
  have hN : ∀ d : Dev nD, (∑ j ∈ Finset.Ico 0 14, if dest d j = c ∧ rix d j = k then N else 0)
      = (∑ j ∈ Finset.Ico 0 14, if dest d j = c ∧ rix d j = k then 1 else 0) * N := fun d => by
    rw [Finset.sum_mul]
    refine Finset.sum_congr rfl fun j _ => ?_
    split
    · rw [Nat.one_mul]
    · rw [Nat.zero_mul]
  rw [Finset.sum_congr rfl fun d _ => hN d, ← Finset.sum_mul, recv_count c k h, Nat.one_mul]

def recvL : Fin 16 ↪ SemLoc sig := ⟨fun k => .dma (recvS k), fun a b h => by
  have h3 : 22 + a.val = 22 + b.val := congrArg Fin.val (SemLoc.dma.inj h)
  exact Fin.ext (by omega)⟩

/-- Device `c`'s launch credit pays for its barrier wait and its receive waits. -/
theorem creds (c : Dev nD) : (Pipeline.launchCred O₀ c : sProp 𝕄) ⊢ iprop(cred (tallyAt (barCell c) () 7)
    ∗ bigSep Finset.univ fun k : Fin 16 => if k.val / 2 = c.val then iprop(emp) else cred (tallyAt (recvCell c k) () N)) := by
  unfold Pipeline.launchCred
  rw [bigSep_univ_at _ (SemLoc.reg barS), launch_bar]
  refine sep_mono_right ?_
  refine (bigSep_subset (s := Finset.univ.erase (SemLoc.reg barS)) (t := Finset.univ.map recvL) ?_).trans ?_
  · intro sm h
    obtain ⟨k, -, rfl⟩ := Finset.mem_map.mp h
    exact Finset.mem_erase.mpr ⟨(fun h => by cases h), Finset.mem_univ _⟩
  rw [bigSep_map]
  refine each fun k => ?_
  by_cases h : k.val / 2 = c.val
  · rw [if_pos h]
    iintro -
    iempintro
  · rw [if_neg h, ← launch_recv c k h]
    exact Entails.refl _

/-! ## The launch element -/

abbrev adm : (p : Fin 1) → (pcfgs (F := F) p).Adm := fun p => (cfgs p).toPCfg_adm

def u₀ : UU :=
  (initOf (Pipeline.cells (Pipeline.pin (pcfgs (F := F)) adm) cellOf_inj) (Pipeline.launchToks (Pipeline.pin (pcfgs (F := F)) adm) cellOf_inj),
    (launchOf barCells (sendCells ∪ recvCells) duties, 1))

/-- The exchange's launch element, kept whole with device 0 until the cells are made. -/
def G (c : Dev nD) : sProp 𝕄 :=
  if c = 0 then BI.own ((ER : Emb UX 𝕄) (launchOf barCells (sendCells ∪ recvCells) duties)) else iprop(emp)
theorem G_all : BI.own ((ER : Emb UX 𝕄) (launchOf barCells (sendCells ∪ recvCells) duties)) ⊢ bigSep Finset.univ (G (F := F)) := by
  have h := bigSep_filter (M := 𝕄) Finset.univ (fun c : Dev nD => c = 0) (fun _ => BI.own ((ER : Emb UX 𝕄) (launchOf barCells (sendCells ∪ recvCells) duties)))
  rw [show (Finset.univ.filter fun c : Dev nD => c = 0) = {0} by decide, bigSep_singleton] at h
  exact Entails.of_eq h

/-- What a device keeps of the launch while the cells are made. -/
def Keep (c : Dev nD) : sProp 𝕄 :=
  iprop(cred (tallyAt (barCell c) () 7)
    ∗ (bigSep Finset.univ fun k : Fin 16 => if k.val / 2 = c.val then iprop(emp) else cred (tallyAt (recvCell c k) () N))
    ∗ Owes (F := F) c (Osig c 0)
    ∗ (aLoc c ↦{fullShare} X m c) ∗ (wLoc c ↦{fullShare} W m c) ∗ ∃ f : Buf (Elt F) (rLoc c), rLoc c ↦{fullShare} f)

theorem unscopedSems_bar (c : Dev nD) : (unscopedSems0 c : sProp 𝕄) = semVal (barCell c) 0 := by
  unfold unscopedSems0
  rw [bigSep_eq_bigSepL_of_eq [SemLoc.reg barS] (by decide) (by decide)]
  rfl
theorem unscoped_bufs (c : Dev nD) : (unscopedBufs c (fun b => m ((c : Thread nD τ).loc b)) : sProp 𝕄)
    ⊢ iprop((aLoc c ↦{fullShare} X m c) ∗ (wLoc c ↦{fullShare} W m c) ∗ ∃ f : Buf (Elt F) (rLoc c), rLoc c ↦{fullShare} f) := by
  rw [Pipeline.unscopedBufs_split cfgs 0 winFacts0.arr_unscoped winFacts0.arr_inj c]
  iintro ⟨H, Hw⟩
  ihave H := (Entails.of_eq (bigSep_W0 _)) $$ H
  icases H with ⟨Ha, Hr⟩
  ihave Hw := (Entails.of_eq (unscopedRest0_eq c _)) $$ Hw
  isplitl [Ha]; · iexact Ha
  isplitl [Hw]; · iexact Hw
  iexists _
  iexact Hr

theorem start_dev (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ iprop(semVal (barCell c) 0 ∗ G (F := F) c ∗ Keep m c) := by
  rw [unscopedSems_bar]
  unfold Keep Owes
  iintro ⟨Hb, Hs, HO, Hcr, -, HG⟩
  ihave Hc := (creds (F := F) c) $$ Hcr
  icases Hc with ⟨H1, H2⟩
  ihave Hb := (unscoped_bufs m c) $$ Hb
  icases Hb with ⟨Ha, Hw, Hr⟩
  isplitl [Hs]; · iexact Hs
  isplitl [HG]; · iexact HG
  isplitl [H1]; · iexact H1
  isplitl [H2]; · iexact H2
  isplitl [HO]; · iexists ∅; iexact HO
  isplitl [Ha]; · iexact Ha
  isplitl [Hw]; · iexact Hw
  iexact Hr

/-- What the cells' making deals device `c`. -/
def Dealt (c : Dev nD) : sProp 𝕄 :=
  iprop(atPos ER (barCell c) 0 ∅ 0
    ∗ iprop((bigSep Finset.univ fun j : Fin 16 => openTok ER (sendCell c j)) ∗ (bigSep Finset.univ fun k : Fin 16 => openTok ER (recvCell c k)))
    ∗ toks c)

theorem cells_made : iprop((bigSep Finset.univ fun c : Dev nD => semVal (barCell c) 0) ∗ bigSep Finset.univ (G (F := F)))
    ⊢ (|={Set.univ}=> iprop(∃ κ : GSem nD τ sig → ℕ, iprop(Invs m κ ∗ bigSep Finset.univ fun d : Dev nD => reached ER (barCell d) 0)
        ∗ bigSep Finset.univ (Dealt (F := F))) : sProp 𝕄) := by
  unfold Invs
  iintro ⟨Hs, HG⟩
  ihave HX := (each_elim (Φ := G (F := F)) 0) $$ HG
  ihave HX := (Entails.of_eq (show G (F := F) 0 = _ from if_pos rfl)) $$ HX
  imod (Rounds.fund_launch ER (Rd (F := F) m) (S := barCells) (Sd := sendCells ∪ recvCells) bar_disjoint (fun _ _ h => h) duties) $$ [Hs HX] with ⟨%κ, -, Hinv, Hr, Hat, Hop, Htk⟩
  · isplitl [Hs]
    · iapply (Entails.of_eq (bar_all (F := F) fun g => semVal g 0).symm); iexact Hs
    iexact HX
  ihave Hinv := (by_kind (F := F) fun g => cellInv ER (Rd (F := F) m) (κ g) g) $$ Hinv
  ihave Hr := (Entails.of_eq (bar_all (F := F) fun g => reached ER g 0)) $$ Hr
  ihave Hat := (Entails.of_eq (bar_all (F := F) fun g => atPos ER g 0 ∅ 0)) $$ Hat
  ihave Hop := (dma_each (F := F) fun g => openTok ER g) $$ Hop
  ihave Htk := (toks_each (F := F)) $$ Htk
  imodintro
  iexists κ
  isplitl [Hinv Hr]
  · isplitl [Hinv]; · iexact Hinv
    iexact Hr
  iapply (each_pair (F := F) (Φ := fun c : Dev nD => atPos ER (barCell c) 0 ∅ 0))
  isplitl [Hat]; · iexact Hat
  iapply (each_pair (F := F) (Φ := fun c : Dev nD => iprop((bigSep Finset.univ fun j : Fin 16 => openTok ER (sendCell c j)) ∗ (bigSep Finset.univ fun k : Fin 16 => openTok ER (recvCell c k)))))
  isplitl [Hop]; · iexact Hop
  iexact Htk

theorem brings (κ : GSem nD τ sig → ℕ) (c : Dev nD) :
    iprop(iprop(Invs m κ ∗ bigSep Finset.univ fun d : Dev nD => reached ER (barCell d) 0) ∗ iprop(Dealt (F := F) c ∗ Keep m c)) ⊢ pre m c := by
  unfold pre TPre Dealt Keep toks
  iintro ⟨⟨HI, HR⟩, ⟨Ha, ⟨Ho1, Ho2⟩, Ht1, Ht2, Ht3⟩, Hk⟩
  iexists κ
  isplitl [HI]; · iexact HI
  isplitl [HR]; · iexact HR
  isplitl [Ha]; · iexact Ha
  isplitl [Ho1]; · iexact Ho1
  isplitl [Ho2]; · iexact Ho2
  isplitl [Ht1]; · iexact Ht1
  isplitl [Ht2]; · iexact Ht2
  isplitl [Ht3]; · iexact Ht3
  iexact Hk

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (pre m) : sProp 𝕄) := by
  iintro ⟨H, -⟩
  ihave H := (each (start_dev m ρ)) $$ H
  ihave H := (each_unpair (F := F)) $$ H
  icases H with ⟨Hs, H⟩
  ihave H := (each_unpair (F := F)) $$ H
  icases H with ⟨HG, HK⟩
  imod (cells_made m) $$ [Hs HG] with ⟨%κ, HP, HD⟩
  · isplitl [Hs] <;> iassumption
  imodintro
  iapply (each_with (brings m κ))
  isplitl [HP]; · iexact HP
  iapply (each_pair (F := F))
  isplitl [HD] <;> iassumption

/-! ## The run -/

/-- The pipeline's own record of the region, which the region's proof replaces. -/
def pdats : (p : Fin 1) → (c : Dev nD) → Pipeline.Dat τ (Elt F) Unit ℕ UU ℕ (Pipeline.pin (pcfgs (F := F)) adm p) c := fun _ c =>
  { A := fun w _ => Classical.arbitrary _
    after := fun w _ _ => Classical.arbitrary _
    Φ := fun _ => iprop(emp)
    q := fun _ => fullShare
    owed := fun _ => 0 }

def segs : List (Pipeline.Seg (pcfgs (F := F)) adm pdats () defs₀ 𝒱₀ L lv) := [.host (seg m)]

set_option backward.isDefEq.respectTransparency.types false in
/-- From any memory with zero counters every fair execution of the program ends, with the arguments as they were, each
    device's result `OUT`, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = OUT m c) ∧ r.2.sem = fun _ => 0) :=
  Pipeline.θ_run_regions_kit_sems (pcfgs (F := F)) adm pdats () cellOf_inj EP defs₀ 𝒱₀ L lv m ρ main (segs m)
    (fun c Q => by rw [main_chain]; exact Entails.refl _)
    (by simp only [segs, Pipeline.Seg.pipes_host, Pipeline.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      iapply (G_all (F := F))
      iexact HX)
    (T₀ := pre m) (Tₙ := Tend m)
    (hch := ⟨fun c => .rfl, fun c => by
      show post m c ⊢ _
      unfold post Owes
      iintro ⟨H, HO⟩
      isplitl [H]; · iexact H
      iexact HO⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v1) = OUT m c) ∧ s.sem (barCell c) = 0)
    (hfin := fun c s' => by
      unfold Tend
      iintro ⟨⟨Ha, Hw, Hr, Hb⟩, HSI⟩
      icombine HSI Ha gives %ha
      icombine HSI Hw gives %hw
      icombine HSI Hr gives %hr
      icombine HSI Hb gives %hb
      imodintro
      isplitr
      · ipureintro
        exact ⟨⟨Buf.eq_of_forall_mem_univ ha, Buf.eq_of_forall_mem_univ hw, Buf.eq_of_forall_mem_univ hr⟩, hb⟩
      iexact HSI)
    (hQ := fun s h hs => ⟨fun c => (h c).1, sem_eq_zero hs fun c sm _ => by
      obtain rfl : sm = .reg barS := by revert sm; decide
      exact (h c).2⟩)

end Cert.KernelProof

end
-- ==== Proof.KernelIdealRun.lean ====
module

public import proofs.«01_k».proof.Proof.KernelLaunch
public import proofs.«01_k».proof.Proof.Gen.KernelIdeal

@[expose] public section

noncomputable section

namespace Cert.KernelIdealProof
open Idealize.ShloMosaic Idealize.SL.Sem

/-- The two programs' kernels have the same bodies. -/
theorem kdefs_same : (Cert.KernelIdeal.defs₀ (F := Ideal) : Defs Cert.Kernel.nD Cert.Kernel.τ Cert.Kernel.sig (Elt Ideal) Cert.Kernel.Λ₀) = Cert.Kernel.defs₀ (F := Ideal) := by
  funext p ℓ a
  match p, ℓ with
  | .tc, ⟨0, _⟩ => exact rfl
  | .tc, ⟨_ + 1, h⟩ => exact absurd h (Nat.not_lt.2 (Nat.le_add_left _ _))
  | .scScalar _, _ => exact rfl
  | .scVector _ _, _ => exact rfl

/-- So their pipelines have too. -/
theorem defs_same : (Cert.KernelIdeal.defs (F := Ideal) : Defs Cert.Kernel.nD Cert.Kernel.τ Cert.Kernel.sig (Elt Ideal)
      (Pipeline.Sig Cert.Kernel.Λ₀ (Fin 1) fun p => (Cert.Kernel.pcfgs (F := Ideal) p).Adm)) = Cert.Kernel.defs (F := Ideal) :=
  congrArg (Pipeline.defs (Cert.Kernel.pcfgs (F := Ideal))) kdefs_same

/-- The run of the kernel, at the ideal values, is the run of the printed kernel there: both keep their arguments, leave
    `OUT` on each device, and end with no counter standing. -/
theorem run_main (m : (ℓ : Loc Cert.KernelIdeal.nD Cert.KernelIdeal.τ Cert.KernelIdeal.sig) → Buf (Elt Ideal) ℓ) (ρ : Dev Cert.KernelIdeal.nD → PrngReg) :
   θ_run (Cert.KernelIdeal.defs (F := Ideal)) (onTc (τ := Cert.KernelIdeal.τ) (Cert.KernelIdeal.main (F := Ideal))) ⟨m, fun _ => 0, ρ⟩
    (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_v1) = Cert.KernelProof.OUT m c) ∧ r.2.sem = fun _ => 0) := by
  have h := Cert.KernelProof.run_main (F := Ideal) m ρ
  rw [← defs_same] at h
  exact h

end Cert.KernelIdealProof

end
-- ==== Proof.KernelValue.lean ====
module

public import proofs.«01_k».proof.Proof.KernelLaunch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

/-! # The value: what the kernel leaves is its device's columns of the reference's result -/

namespace Cert.KernelProof

open Cert.Kernel Cert.Kernel.Gen
open Idealize.ShloMosaic Idealize.ShloMosaic.TcCoe Idealize.ShloMosaic.ValueIdx
open scoped BigOperators

variable (m : (ℓ : Loc nD τ sig) → Buf (Elt Ideal) ℓ)

/-- A block's entry: the row of the device's rows of `x` against the column of the weights, cut off at zero. -/
theorem blk_apply (d : Dev nD) (i : ℕ) (r : Fin 1024) (b : Fin 256) :
    blk (F := Ideal) m d i (ix3 (0 : Fin 1) r b)
      = max (∑ k : Fin 8192, X (F := Ideal) m d (ix2 r k) * wAt (F := Ideal) m d i k b : EReal) 0 := by
  have hw : ∀ (k : Fin 8192), shapeCast S8192x256 (wv (F := Ideal) m d i) shapeCasts_S1x8192x256_S8192x256 (ix2 k b)
      = wAt (F := Ideal) m d i k b := fun k => shapeCast_dropUnit_apply ![8192, 256] _ _ _
  have hx : shapeCast S1024x8192 (X (F := Ideal) m d) shapeCasts_S1024x8192_S1024x8192 = X (F := Ideal) m d := shapeCast_self _ _
  have h1 : blk (F := Ideal) m d i (ix3 (0 : Fin 1) r b) = k0_pay2 (F := Ideal) (X m d) (wv m d i) (ix2 r b) := by
    unfold blk k0_pay1
    exact shapeCast_addUnit_apply ![1024, 256] _ _ _
  have h2 := Ideal.matmul_plain_apply (M := 1024) (K := 8192) (N := 256) (φ₁ := .bf16) (φ₂ := .bf16) none
    (shapeCast S1024x8192 (X (F := Ideal) m d) shapeCasts_S1024x8192_S1024x8192)
    (truncf .bf16 (shapeCast S8192x256 (wv (F := Ideal) m d i) shapeCasts_S1x8192x256_S8192x256) bitsLt_bf16_f32)
    (constant S1024x256 .f32 0x00000000#32) r b
  rw [h1]
  unfold k0_pay2
  show max (FloatOps.matmul (DotDims.plain 1024 8192 256) none _ _ _ (ix2 r b)) (Ideal.ofBits .f32 0x00000000#32) = _
  rw [h2, Ideal.ofBits_zero_f32]
  show max (Ideal.ofBits .f32 0x00000000#32 + ∑ k : Fin 8192, _) 0 = _
  rw [Ideal.ofBits_zero_f32, zero_add, hx]
  exact congrArg (fun z : EReal => max z 0) <| Finset.sum_congr rfl fun k _ => congrArg (X (F := Ideal) m d (ix2 r k) * ·) (hw k)

/-- The reference's result of whole arguments. -/
def refOut (x : FVec Ideal Cert.ReferenceIdeal.S8192x8192 .bf16) (w : FVec Ideal Cert.ReferenceIdeal.S8192x4096 .f32) :
    FVec Ideal Cert.ReferenceIdeal.S8192x4096 .bf16 :=
  truncf .bf16 (maximumf
    (Host.dotGeneral Cert.ReferenceIdeal.dot_S8192x8192_S8192x4096_S8192x4096_1_0_0_1_n_n none
      (extf .f32 x Cert.ReferenceIdeal.Gen.bitsLt_bf16_f32) w)
    (broadcastInDim Cert.ReferenceIdeal.S8192x4096 ![] Cert.ReferenceIdeal.Gen.bcast_S_S8192x4096
      (constant Cert.ReferenceIdeal.S_ .f32 0x00000000#32))) Cert.ReferenceIdeal.Gen.bitsLt_bf16_f32

/-- The reference's entry: the row of `x` against the column of the weights, cut off at zero. -/
theorem refOut_apply (x : FVec Ideal Cert.ReferenceIdeal.S8192x8192 .bf16)
    (w : FVec Ideal Cert.ReferenceIdeal.S8192x4096 .f32) (r : Fin 8192) (n : Fin 4096) :
    refOut x w (ix2 r n) = max (∑ k : Fin 8192, x (ix2 r k) * w (ix2 k n) : EReal) 0 := by
  unfold refOut
  show max (Host.dotGeneral (F := Ideal) (DotDims.plain 8192 8192 4096) none (extf .f32 x _) w (ix2 r n))
    (Ideal.ofBits .f32 0x00000000#32) = _
  rw [Ideal.ofBits_zero_f32, StackMember.dotGeneral_plain_apply]
  rfl

/-- With `x` cut by rows over the devices and the weights whole on each, device `c`'s result is its columns of the
    reference's. -/
theorem out_eq (x : FVec Ideal Cert.ReferenceIdeal.S8192x8192 .bf16) (w : FVec Ideal Cert.ReferenceIdeal.S8192x4096 .f32)
    (hx : ∀ c : Dev nD, ∀ h, X (F := Ideal) m c = Layout.block ⟨2, ![1024, 8192]⟩ ⟨2, ![8192, 8192]⟩ 0 8 c x h)
    (hw : ∀ c : Dev nD, W (F := Ideal) m c = w) (c : Dev nD) (h) :
    OUT (F := Ideal) m c = Layout.block ⟨2, ![8192, 512]⟩ ⟨2, ![8192, 4096]⟩ 1 8 c (refOut x w) h := by
  funext j
  have j0 : (j 0).val < 8192 := (j 0).isLt
  have j1 : (j 1).val < 512 := (j 1).isLt
  have hc : c.val < 8 := c.isLt
  have hl : c.val * 512 + (j 1).val < 4096 := by omega
  have e : h.idx c j = ix2 (⟨(j 0).val, j0⟩ : Fin 8192) (⟨c.val * 512 + (j 1).val, hl⟩ : Fin 4096) := by
    rw [eq_ix2 (h.idx c j)]
    congr 1
  rw [Layout.block_apply, e, refOut_apply]
  unfold OUT
  rw [blk_apply]
  refine congrArg (fun z : EReal => max z 0) (Finset.sum_congr rfl fun k _ => congrArg₂ (fun a b : EReal => a * b) ?_ ?_)
  · rw [hx _ (by decide), Layout.block_apply]
    congr 1
    rw [eq_ix2 (Layout.Tiles.idx _ _ _)]
    congr 1
    refine Fin.ext ?_
    show (j 0).val / 1024 % 8 * 1024 + (j 0).val % 1024 = (j 0).val
    omega
  · unfold wAt
    rw [hw]
    congr 2
    refine Fin.ext ?_
    show 512 * (((j 0).val / 1024 % 8 + (2 * ((c.val + 15 - (j 0).val / 1024) % 8) + (j 1).val / 256) / 2 + 1) % 8)
      + 256 * ((2 * ((c.val + 15 - (j 0).val / 1024) % 8) + (j 1).val / 256) % 2) + (j 1).val % 256 = c.val * 512 + (j 1).val
    omega

end Cert.KernelProof

end
-- ==== Proof.lean ====
/-
  The claims: the kernel as printed, the same kernel at the ideal values and the reference there each run to the end,
  keep their arguments and leave no counter standing; the printed kernel is the one whose value is claimed; and on
  arguments laid out over the devices its results are the device's columns of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.KernelIdealRun
public import proofs.«01_k».proof.Proof.KernelValue
public import Idealize.ShloMosaic.Lib.Quiescent

@[expose] public section

noncomputable section

namespace Cert.Proof

open Idealize.ShloMosaic Idealize.SL.Sem

/-- The printed kernel runs, keeps its arguments and ends with every counter at zero. -/
theorem frame_kernel : quiescent_Kernel (hKernel := Cert.Kernel.Gen.facts) := fun m g _ =>
  (θ_run Cert.Kernel.defs _ _).mono (fun _ h => ⟨fun c => ⟨(h.1 c).1, (h.1 c).2.1⟩, h.2⟩)
    (Cert.KernelProof.run_main (F := Bits) m g)

/-- So does the kernel at the ideal values. -/
theorem frame_kernelIdeal : quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩)
    (Cert.KernelIdealProof.run_main m g)

/-- So does the reference, which has no counters. -/
theorem frame_reference : quiescent_ReferenceIdeal (hReferenceIdeal := Cert.ReferenceIdeal.Gen.facts) := fun m g _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m g)

/-- On arguments laid out over the devices, the kernel's results are the reference's columns. -/
theorem value : algebraic_KernelIdeal_ReferenceIdeal (hKernelIdeal := Cert.KernelIdeal.Gen.facts)
    (hReferenceIdeal := Cert.ReferenceIdeal.Gen.facts) := fun m g m' g' _ hag =>
  ⟨Cert.KernelProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.KernelProof.out_eq m _ _ (fun d _ => (hag d).1) (fun d => (hag d).2) c _),
        (h.1 c).1, (h.1 c).2.1⟩)
      (Cert.KernelIdealProof.run_main m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
